-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_g_in_range [hPre_g_in_range : Cert.Pre_g_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_g_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_g_in_range [hPre_g_in_range : Cert.Pre_g_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_g_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_g_in_range [hKernelIdeal : Cert.KernelIdeal.Facts] [hPre_g_in_range : Cert.Pre_g_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_g_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_g_in_range [hReferenceIdeal : Cert.ReferenceIdeal.Facts] [hPre_g_in_range : Cert.Pre_g_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_g_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S8x128
  ∧ IdealRules.bf16_pair.Statement Cert.KernelIdeal.S16x128 Cert.KernelIdeal.S8x128

def algebraic_KernelIdeal_ReferenceIdeal_pre_g_in_range [hKernelIdeal : Cert.KernelIdeal.Facts] [hReferenceIdeal : Cert.ReferenceIdeal.Facts] [hPre_g_in_range : Cert.Pre_g_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_g_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_g_in_range : Cert.Pre_g_in_range.Facts),
    quiescent_Kernel (hKernel := hKernel)
    ∧ quiescent_KernelIdeal (hKernelIdeal := hKernelIdeal)
    ∧ quiescent_KernelIdeal_pre_g_in_range (hKernelIdeal := hKernelIdeal) (hPre_g_in_range := hPre_g_in_range)
    ∧ quiescent_ReferenceIdeal (hReferenceIdeal := hReferenceIdeal)
    ∧ quiescent_ReferenceIdeal_pre_g_in_range (hReferenceIdeal := hReferenceIdeal) (hPre_g_in_range := hPre_g_in_range)
    ∧ preserves_Kernel_KernelIdeal
    ∧ algebraic_KernelIdeal_ReferenceIdeal_pre_g_in_range (hKernelIdeal := hKernelIdeal) (hReferenceIdeal := hReferenceIdeal) (hPre_g_in_range := hPre_g_in_range)
-- ==== Pre_g_in_range.lean ====
abbrev S2000x1x8192 : Shape := ⟨3, ![2000, 1, 8192]⟩
abbrev S1024x8192 : Shape := ⟨2, ![1024, 8192]⟩
abbrev S16x8192 : Shape := ⟨2, ![16, 8192]⟩
abbrev S8x8192 : Shape := ⟨2, ![8, 8192]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S2000x1x8192 .bf16) (main_arg1 : IVec S1024x8192 8) (main_arg2 : FVec F S16x8192 .bf16) (main_arg3 : IVec S8x8192 8) (main_arg4 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg4 main_v0
  let main_c_0 : IVec S_ 32 := constantI S_ 32 16#32
  let main_v2 : IVec S2048 32 := broadcastInDim S2048 ![] bcast_S_S2048 main_c_0
  let main_v3 : IVec S2048 1 := cmpi .slt main_arg4 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2000x1x8192 : Shape := ⟨3, ![2000, 1, 8192]⟩
abbrev S1024x8192 : Shape := ⟨2, ![1024, 8192]⟩
abbrev S16x8192 : Shape := ⟨2, ![16, 8192]⟩
abbrev S8x8192 : Shape := ⟨2, ![8, 8192]⟩
abbrev S2048 : Shape := ⟨1, ![2048]⟩
abbrev S2000x8192 : Shape := ⟨2, ![2000, 8192]⟩
abbrev S16x128 : Shape := ⟨2, ![16, 128]⟩
abbrev S2000x2048 : Shape := ⟨2, ![2000, 2048]⟩
abbrev S2000x256 : Shape := ⟨2, ![2000, 256]⟩
abbrev S1024x256 : Shape := ⟨2, ![1024, 256]⟩
abbrev S16x256 : Shape := ⟨2, ![16, 256]⟩
abbrev S8x256 : Shape := ⟨2, ![8, 256]⟩
abbrev S2048x128 : Shape := ⟨2, ![2048, 128]⟩
abbrev S2048x256 : Shape := ⟨2, ![2048, 256]⟩
abbrev S1x128 : Shape := ⟨2, ![1, 128]⟩
abbrev S128x128 : Shape := ⟨2, ![128, 128]⟩
abbrev S8x128 : Shape := ⟨2, ![8, 128]⟩
abbrev S32x128 : Shape := ⟨2, ![32, 128]⟩
abbrev S8x128x1 : Shape := ⟨3, ![8, 128, 1]⟩
abbrev S2000x1x2048 : Shape := ⟨3, ![2000, 1, 2048]⟩

abbrev nBuf : Space → Nat
  | .hbm => 9
  | .vmem => 13
  | .smem => 0
  | _ => 0

abbrev bufTy : (tb : Table) → Fin (tcTables nBuf tb) → BufTy
  | .hbm, ⟨0, _⟩ => ⟨S2000x1x8192, .bf16⟩
  | .hbm, ⟨1, _⟩ => ⟨S1024x8192, .i8⟩
  | .hbm, ⟨2, _⟩ => ⟨S16x8192, .bf16⟩
  | .hbm, ⟨3, _⟩ => ⟨S8x8192, .i8⟩
  | .hbm, ⟨4, _⟩ => ⟨S2048, .i32⟩
  | .hbm, ⟨5, _⟩ => ⟨S2000x8192, .bf16⟩
  | .hbm, ⟨6, _⟩ => ⟨S16x128, .i32⟩
  | .hbm, ⟨7, _⟩ => ⟨S2000x2048, .bf16⟩
  | .hbm, ⟨8, _⟩ => ⟨S2000x1x2048, .bf16⟩
  | .local _ .vmem, ⟨0, _⟩ => ⟨S2000x256, .bf16⟩
  | .local _ .vmem, ⟨1, _⟩ => ⟨S2000x256, .bf16⟩
  | .local _ .vmem, ⟨2, _⟩ => ⟨S1024x256, .i8⟩
  | .local _ .vmem, ⟨3, _⟩ => ⟨S1024x256, .i8⟩
  | .local _ .vmem, ⟨4, _⟩ => ⟨S16x256, .bf16⟩
  | .local _ .vmem, ⟨5, _⟩ => ⟨S16x256, .bf16⟩
  | .local _ .vmem, ⟨6, _⟩ => ⟨S8x256, .i8⟩
  | .local _ .vmem, ⟨7, _⟩ => ⟨S8x256, .i8⟩
  | .local _ .vmem, ⟨8, _⟩ => ⟨S16x128, .i32⟩
  | .local _ .vmem, ⟨9, _⟩ => ⟨S2000x2048, .bf16⟩
  | .local _ .vmem, ⟨10, _⟩ => ⟨S2048x128, .i32⟩
  | .local _ .vmem, ⟨11, _⟩ => ⟨S2048x256, .bf16⟩
  | .local _ .vmem, ⟨12, _⟩ => ⟨S2000x2048, .f32⟩
  | _, _ => ⟨S2000x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32_4 : BitVec 32 := 0#32
  let c32_i32 : BitVec 32 := 32#32
  let v14 : BitVec 32 := Scalar.addi c0_i32_4 c32_i32
  let c1_i32 : BitVec 32 := 1#32
  ⟨c0_i32_4, v14, c1_i32⟩
def k0_mult1 (k0_t1 : Fin k0_t1_loop.trips) : BitVec 32 :=
  let c0_i32_26 : BitVec 32 := 0#32
  let c0_i32_4 : BitVec 32 := 0#32
  let c1_i32 : BitVec 32 := 1#32
  let arg10 : BitVec 32 := Scf.iv c0_i32_4 c1_i32 k0_t1
  let c1_i32_25 : BitVec 32 := 1#32
  let v39 : BitVec 32 := Scalar.muli arg10 c1_i32_25
  let v40 : BitVec 32 := Scalar.addi c0_i32_26 v39
  let c32_i32_27 : BitVec 32 := 32#32
  let v41 : BitVec 32 := Scalar.muli v40 c32_i32_27
  v41
def k0_off1 (k0_t1 : Fin k0_t1_loop.trips) : Fin 2 → Nat :=
  let c0_i32_26 : BitVec 32 := 0#32
  let c0_i32_4 : BitVec 32 := 0#32
  let c1_i32 : BitVec 32 := 1#32
  let arg10 : BitVec 32 := Scf.iv c0_i32_4 c1_i32 k0_t1
  let c1_i32_25 : BitVec 32 := 1#32
  let v39 : BitVec 32 := Scalar.muli arg10 c1_i32_25
  let v40 : BitVec 32 := Scalar.addi c0_i32_26 v39
  let c32_i32_27 : BitVec 32 := 32#32
  let v41 : BitVec 32 := Scalar.muli v40 c32_i32_27
  let v42 : BitVec 32 := v41
  let v43 : Index := Scalar.indexCast v42
  let c0_28 : Index := 0#32
  ![v43.toNat, 0]
def k0_off2 (k0_t1 : Fin k0_t1_loop.trips) (c0_i32_29 : BitVec 32) : Fin 2 → Nat :=
  let c2_i32 : BitVec 32 := 2#32
  let c0_i32_26 : BitVec 32 := 0#32
  let c0_i32_4 : BitVec 32 := 0#32
  let c1_i32 : BitVec 32 := 1#32
  let arg10 : BitVec 32 := Scf.iv c0_i32_4 c1_i32 k0_t1
  let c1_i32_25 : BitVec 32 := 1#32
  let v39 : BitVec 32 := Scalar.muli arg10 c1_i32_25
  let v40 : BitVec 32 := Scalar.addi c0_i32_26 v39
  let c32_i32_27 : BitVec 32 := 32#32
  let v41 : BitVec 32 := Scalar.muli v40 c32_i32_27
  let v42 : BitVec 32 := v41
  let v46 : BitVec 32 := Scalar.muli c2_i32 v42
  let v47 : BitVec 32 := Scalar.addi v46 c0_i32_29
  let v48 : Index := Scalar.indexCast v47
  let c0_30 : Index := 0#32
  ![v48.toNat, 0]
def k0_off3 (k0_t1 : Fin k0_t1_loop.trips) (c0_i32_32 : BitVec 32) : Fin 2 → Nat :=
  let c2_i32_31 : BitVec 32 := 2#32
  let c0_i32_26 : BitVec 32 := 0#32
  let c0_i32_4 : BitVec 32 := 0#32
  let c1_i32 : BitVec 32 := 1#32
  let arg10 : BitVec 32 := Scf.iv c0_i32_4 c1_i32 k0_t1
  let c1_i32_25 : BitVec 32 := 1#32
  let v39 : BitVec 32 := Scalar.muli arg10 c1_i32_25
  let v40 : BitVec 32 := Scalar.addi c0_i32_26 v39
  let c32_i32_27 : BitVec 32 := 32#32
  let v41 : BitVec 32 := Scalar.muli v40 c32_i32_27
  let v42 : BitVec 32 := v41
  let v50 : BitVec 32 := Scalar.muli c2_i32_31 v42
  let v51 : BitVec 32 := Scalar.addi v50 c0_i32_32
  let c1_i32_33 : BitVec 32 := 1#32
  let v52 : BitVec 32 := Scalar.addi v51 c1_i32_33
  let v53 : Index := Scalar.indexCast v52
  let c0_34 : Index := 0#32
  ![v53.toNat, 0]
def k0_off4 (k0_t1 : Fin k0_t1_loop.trips) (c0_i32_58 : BitVec 32) : Fin 2 → Nat :=
  let c2_i32_57 : BitVec 32 := 2#32
  let c0_i32_26 : BitVec 32 := 0#32
  let c0_i32_4 : BitVec 32 := 0#32
  let c1_i32 : BitVec 32 := 1#32
  let arg10 : BitVec 32 := Scf.iv c0_i32_4 c1_i32 k0_t1
  let c1_i32_25 : BitVec 32 := 1#32
  let v39 : BitVec 32 := Scalar.muli arg10 c1_i32_25
  let v40 : BitVec 32 := Scalar.addi c0_i32_26 v39
  let c32_i32_27 : BitVec 32 := 32#32
  let v41 : BitVec 32 := Scalar.muli v40 c32_i32_27
  let v42 : BitVec 32 := v41
  let v166 : BitVec 32 := Scalar.muli c2_i32_57 v42
  let v167 : BitVec 32 := Scalar.addi v166 c0_i32_58
  let v168 : Index := Scalar.indexCast v167
  let c0_59 : Index := 0#32
  ![v168.toNat, 0]
@[reducible] def k0_t2_loop : Scf.Loop 32 :=
  let c0_i32_12 : BitVec 32 := 0#32
  let c32_i32_13 : BitVec 32 := 32#32
  let v26 : BitVec 32 := Scalar.addi c0_i32_12 c32_i32_13
  let c1_i32_14 : BitVec 32 := 1#32
  ⟨c0_i32_12, v26, c1_i32_14⟩
def k0_mult2 (k0_t2 : Fin k0_t2_loop.trips) : BitVec 32 :=
  let c0_i32_26 : BitVec 32 := 0#32
  let c0_i32_12 : BitVec 32 := 0#32
  let c1_i32_14 : BitVec 32 := 1#32
  let arg10 : BitVec 32 := Scf.iv c0_i32_12 c1_i32_14 k0_t2
  let c1_i32_25 : BitVec 32 := 1#32
  let v39 : BitVec 32 := Scalar.muli arg10 c1_i32_25
  let v40 : BitVec 32 := Scalar.addi c0_i32_26 v39
  let c32_i32_27 : BitVec 32 := 32#32
  let v41 : BitVec 32 := Scalar.muli v40 c32_i32_27
  v41
def k0_off5 (k0_t2 : Fin k0_t2_loop.trips) : Fin 2 → Nat :=
  let c0_i32_26 : BitVec 32 := 0#32
  let c0_i32_12 : BitVec 32 := 0#32
  let c1_i32_14 : BitVec 32 := 1#32
  let arg10 : BitVec 32 := Scf.iv c0_i32_12 c1_i32_14 k0_t2
  let c1_i32_25 : BitVec 32 := 1#32
  let v39 : BitVec 32 := Scalar.muli arg10 c1_i32_25
  let v40 : BitVec 32 := Scalar.addi c0_i32_26 v39
  let c32_i32_27 : BitVec 32 := 32#32
  let v41 : BitVec 32 := Scalar.muli v40 c32_i32_27
  let v42 : BitVec 32 := v41
  let v43 : Index := Scalar.indexCast v42
  let c128_28 : Index := 128#32
  ![v43.toNat, 128]
def k0_off6 (k0_t2 : Fin k0_t2_loop.trips) (c0_i32_29 : BitVec 32) : Fin 2 → Nat :=
  let c2_i32 : BitVec 32 := 2#32
  let c0_i32_26 : BitVec 32 := 0#32
  let c0_i32_12 : BitVec 32 := 0#32
  let c1_i32_14 : BitVec 32 := 1#32
  let arg10 : BitVec 32 := Scf.iv c0_i32_12 c1_i32_14 k0_t2
  let c1_i32_25 : BitVec 32 := 1#32
  let v39 : BitVec 32 := Scalar.muli arg10 c1_i32_25
  let v40 : BitVec 32 := Scalar.addi c0_i32_26 v39
  let c32_i32_27 : BitVec 32 := 32#32
  let v41 : BitVec 32 := Scalar.muli v40 c32_i32_27
  let v42 : BitVec 32 := v41
  let v46 : BitVec 32 := Scalar.muli c2_i32 v42
  let v47 : BitVec 32 := Scalar.addi v46 c0_i32_29
  let v48 : Index := Scalar.indexCast v47
  let c0_30 : Index := 0#32
  ![v48.toNat, 0]
def k0_off7 (k0_t2 : Fin k0_t2_loop.trips) (c0_i32_32 : BitVec 32) : Fin 2 → Nat :=
  let c2_i32_31 : BitVec 32 := 2#32
  let c0_i32_26 : BitVec 32 := 0#32
  let c0_i32_12 : BitVec 32 := 0#32
  let c1_i32_14 : BitVec 32 := 1#32
  let arg10 : BitVec 32 := Scf.iv c0_i32_12 c1_i32_14 k0_t2
  let c1_i32_25 : BitVec 32 := 1#32
  let v39 : BitVec 32 := Scalar.muli arg10 c1_i32_25
  let v40 : BitVec 32 := Scalar.addi c0_i32_26 v39
  let c32_i32_27 : BitVec 32 := 32#32
  let v41 : BitVec 32 := Scalar.muli v40 c32_i32_27
  let v42 : BitVec 32 := v41
  let v50 : BitVec 32 := Scalar.muli c2_i32_31 v42
  let v51 : BitVec 32 := Scalar.addi v50 c0_i32_32
  let c1_i32_33 : BitVec 32 := 1#32
  let v52 : BitVec 32 := Scalar.addi v51 c1_i32_33
  let v53 : Index := Scalar.indexCast v52
  let c0_34 : Index := 0#32
  ![v53.toNat, 0]
def k0_off8 (k0_t2 : Fin k0_t2_loop.trips) (c0_i32_58 : BitVec 32) : Fin 2 → Nat :=
  let c2_i32_57 : BitVec 32 := 2#32
  let c0_i32_26 : BitVec 32 := 0#32
  let c0_i32_12 : BitVec 32 := 0#32
  let c1_i32_14 : BitVec 32 := 1#32
  let arg10 : BitVec 32 := Scf.iv c0_i32_12 c1_i32_14 k0_t2
  let c1_i32_25 : BitVec 32 := 1#32
  let v39 : BitVec 32 := Scalar.muli arg10 c1_i32_25
  let v40 : BitVec 32 := Scalar.addi c0_i32_26 v39
  let c32_i32_27 : BitVec 32 := 32#32
  let v41 : BitVec 32 := Scalar.muli v40 c32_i32_27
  let v42 : BitVec 32 := v41
  let v166 : BitVec 32 := Scalar.muli c2_i32_57 v42
  let v167 : BitVec 32 := Scalar.addi v166 c0_i32_58
  let v168 : Index := Scalar.indexCast v167
  let c128_59 : Index := 128#32
  ![v168.toNat, 128]
def k0_cond2 (i : grid0.Coords) : BitVec 1 :=
  let arg0 : BitVec 32 := BitVec.ofNat 32 (i 0).val
  let c31_i32 : BitVec 32 := 31#32
  let v36 : BitVec 1 := Scalar.cmpi .eq arg0 c31_i32
  let v37 : BitVec 32 := Scalar.extui v36
  let c0_i32_24 : BitVec 32 := 0#32
  let v38 : BitVec 1 := Scalar.cmpi .ne v37 c0_i32_24
  v38

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2000x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F]
-- ==== ReferenceIdeal.lean ====
abbrev S2000x1x8192 : Shape := ⟨3, ![2000, 1, 8192]⟩
abbrev S1024x8192 : Shape := ⟨2, ![1024, 8192]⟩
abbrev S16x8192 : Shape := ⟨2, ![16, 8192]⟩
abbrev S8x8192 : Shape := ⟨2, ![8, 8192]⟩
abbrev S2048 : Shape := ⟨1, ![2048]⟩
abbrev S_ : Shape := ⟨0, ![]⟩
abbrev S1024 : Shape := ⟨1, ![1024]⟩
abbrev S1024x1 : Shape := ⟨2, ![1024, 1]⟩
abbrev S2000x1x1024 : Shape := ⟨3, ![2000, 1, 1024]⟩
abbrev S2000x1x1024x1 : Shape := ⟨4, ![2000, 1, 1024, 1]⟩
abbrev S2000x1x1024x2 : Shape := ⟨4, ![2000, 1, 1024, 2]⟩
abbrev S2000x1x2048 : Shape := ⟨3, ![2000, 1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S2000x1x8192, .bf16⟩
  | .hbm, ⟨1, _⟩ => ⟨S1024x8192, .i8⟩
  | .hbm, ⟨2, _⟩ => ⟨S16x8192, .bf16⟩
  | .hbm, ⟨3, _⟩ => ⟨S8x8192, .i8⟩
  | .hbm, ⟨4, _⟩ => ⟨S2048, .i32⟩
  | .hbm, ⟨5, _⟩ => ⟨S8x8192, .i32⟩
  | .hbm, ⟨6, _⟩ => ⟨S1024x8192, .i32⟩
  | .hbm, ⟨7, _⟩ => ⟨S_, .i32⟩
  | .hbm, ⟨8, _⟩ => ⟨S8x8192, .i32⟩
  | .hbm, ⟨9, _⟩ => ⟨S8x8192, .i32⟩
  | .hbm, ⟨10, _⟩ => ⟨S8x8192, .bf16⟩
  | .hbm, ⟨11, _⟩ => ⟨S_, .i32⟩
  | .hbm, ⟨12, _⟩ => ⟨S8x8192, .i32⟩
  | .hbm, ⟨13, _⟩ => ⟨S8x8192, .i32⟩
  | .hbm, ⟨14, _⟩ => ⟨S8x8192, .bf16⟩
  | .hbm, ⟨15, _⟩ => ⟨S16x8192, .bf16⟩
  | .hbm, ⟨16, _⟩ => ⟨S_, .i32⟩
  | .hbm, ⟨17, _⟩ => ⟨S1024x8192, .i32⟩
  | .hbm, ⟨18, _⟩ => ⟨S1024x8192, .i32⟩
  | .hbm, ⟨19, _⟩ => ⟨S1024, .i32⟩
  | .hbm, ⟨20, _⟩ => ⟨S1024x8192, .bf16⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x8192, .bf16⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x8192, .bf16⟩
  | .hbm, ⟨39, _⟩ => ⟨S1024x8192, .bf16⟩
  | .hbm, ⟨40, _⟩ => ⟨S1024x8192, .bf16⟩
  | .hbm, ⟨41, _⟩ => ⟨S2000x1x1024, .f32⟩
  | .hbm, ⟨42, _⟩ => ⟨S_, .i32⟩
  | .hbm, ⟨43, _⟩ => ⟨S1024x8192, .i32⟩
  | .hbm, ⟨44, _⟩ => ⟨S1024x8192, .i32⟩
  | .hbm, ⟨45, _⟩ => ⟨S1024, .i32⟩
  | .hbm, ⟨46, _⟩ => ⟨S1024x8192, .bf16⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S1024x8192, .bf16⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S1024x1, .i32⟩
  | .hbm, ⟨64, _⟩ => ⟨S1024x8192, .bf16⟩
  | .hbm, ⟨65, _⟩ => ⟨S1024x8192, .bf16⟩
  | .hbm, ⟨66, _⟩ => ⟨S1024x8192, .bf16⟩
  | .hbm, ⟨67, _⟩ => ⟨S2000x1x1024, .f32⟩
  | .hbm, ⟨68, _⟩ => ⟨S2000x1x1024x1, .f32⟩
  | .hbm, ⟨69, _⟩ => ⟨S2000x1x1024x1, .f32⟩
  | .hbm, ⟨70, _⟩ => ⟨S2000x1x1024x2, .f32⟩
  | .hbm, ⟨71, _⟩ => ⟨S2000x1x2048, .f32⟩
  | .hbm, ⟨72, _⟩ => ⟨S2000x1x2048, .bf16⟩
  | _, _ => ⟨S2000x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Proof.Bits.Runs.lean ====
/- What the three runs of the kernel body share: its branch conditions over the grid's points, where the windows are idle, the staging
   and scratch buffers, and the weight scratch after the two dequantizing loops. -/
module

public import proofs.«01_k».proof.Proof.Gen.Kernel.Frame
public import proofs.«01_k».proof.Proof.Gen.Kernel.Loops
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S2000x2048 .bf16 := (Memref.whole cc0_stg5_0 : Memref sig .tc .vmem S2000x2048 .bf16).view
/-- Each window's current staging memref at point `t`, spelled as the pipeline passes it (`bodyAt0`), and its wholeness. -/
abbrev ms0_0 (t : Fin cfg0.N) : Memref sig .tc .vmem S2000x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2000x2048 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2048x128 .i32 := Memref.whole cc0_scratch0
abbrev scM0_1 : Memref sig .tc .vmem S2048x256 .bf16 := Memref.whole cc0_scratch1
abbrev scM0_2 : Memref sig .tc .vmem S2000x2048 .f32 := Memref.whole cc0_scratch2
/-- The scratch `arg7` the kernel carries between points, as a view: what it holds is stated through it. -/
abbrev VS0_0 : View sig .tc .vmem S2048x128 .i32 := scM0_0.view
/-- The scratch `arg9` the kernel carries between points, as a view: what it holds is stated through it. -/
abbrev VS0_2 : View sig .tc .vmem S2000x2048 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The weight scratch after the two counted loops -/

/-- The pieces the two counted loops store into the weight scratch, last first: the second loop's (columns 128 to 255), then
    the first's (columns 0 to 127). -/
abbrev wPieces (𝒱 : Variants) (c : Dev nD) (bd : Option 𝒱.V) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (v3 : Vec F S16x128 .bf16) (v4 : Vec F S8x128 .i8) (v15 : Vec F S16x128 .bf16) (v16 : Vec F S8x128 .i8) (X_arg2 : BufTy.Contents (Elt F) arg2.view.ty) (X_arg7 : BufTy.Contents (Elt F) arg7.view.ty) : List (View.Piece (Elt F) S2048x256 .bf16) :=
  (pb_k0_t2 (F := F) 𝒱 c bd i arg1 harg1 arg2 harg2 arg3 harg3 arg4 harg4 arg5 harg5 arg6 harg6 arg7 harg7 arg8 harg8 arg9 harg9 v15 v16 X_arg2 X_arg7 (Scf.trips k0_t2_loop.lb k0_t2_loop.ub k0_t2_loop.st)) ++ (pb_k0_t1 (F := F) 𝒱 c bd i arg1 harg1 arg2 harg2 arg3 harg3 arg4 harg4 arg5 harg5 arg6 harg6 arg7 harg7 arg8 harg8 arg9 harg9 v3 v4 X_arg2 X_arg7 (Scf.trips k0_t1_loop.lb k0_t1_loop.ub k0_t1_loop.st))

/-- What a load of the weight scratch reads once both loops have run does not depend on what the scratch held before: the
    pieces tile it. -/
theorem w_read (𝒱 : Variants) (c : Dev nD) (bd : Option 𝒱.V) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (v3 : Vec F S16x128 .bf16) (v4 : Vec F S8x128 .i8) (v15 : Vec F S16x128 .bf16) (v16 : Vec F S8x128 .i8) (X_arg2 : BufTy.Contents (Elt F) arg2.view.ty) (X_arg7 : BufTy.Contents (Elt F) arg7.view.ty) (f : BufTy.Contents (Elt F) arg8.view.ty) (B : LoadRect S2048x256) :
    arg8.view.readAt (Elt F) B (arg8.view.writes (Elt F) f ((pb_k0_t2 (F := F) 𝒱 c bd i arg1 harg1 arg2 harg2 arg3 harg3 arg4 harg4 arg5 harg5 arg6 harg6 arg7 harg7 arg8 harg8 arg9 harg9 v15 v16 X_arg2 X_arg7 (Scf.trips k0_t2_loop.lb k0_t2_loop.ub k0_t2_loop.st)) ++ (pb_k0_t1 (F := F) 𝒱 c bd i arg1 harg1 arg2 harg2 arg3 harg3 arg4 harg4 arg5 harg5 arg6 harg6 arg7 harg7 arg8 harg8 arg9 harg9 v3 v4 X_arg2 X_arg7 (Scf.trips k0_t1_loop.lb k0_t1_loop.ub k0_t1_loop.st))))
      = arg8.view.readCov (wPieces 𝒱 c bd i arg1 harg1 arg2 harg2 arg3 harg3 arg4 harg4 arg5 harg5 arg6 harg6 arg7 harg7 arg8 harg8 arg9 harg9 v3 v4 v15 v16 X_arg2 X_arg7) B :=
  View.readAt_writes_of_cover _ f _ B (fun j => View.cover_of_tiledL (wPieces 𝒱 c bd i arg1 harg1 arg2 harg2 arg3 harg3 arg4 harg4 arg5 harg5 arg6 harg6 arg7 harg7 arg8 harg8 arg9 harg9 v3 v4 v15 v16 X_arg2 X_arg7) S16x128.size (by sl_kernel_rfl) (B.idx j))

end Cert.Kernel.Gen

end
-- ==== Proof.Bits.RunA.lean ====
/- The run of the whole kernel body in case A of its two conditions. -/
module

public import proofs.«01_k».proof.Proof.Bits.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
set_option backward.proofsInPublic true in
-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) :
    Σ' (L5 : List (View.Piece (Elt F) S2000x2048 .bf16)), Σ' (LS0 : List (View.Piece (Elt F) S2048x128 .i32)), { LS2 : List (View.Piece (Elt F) S2000x2048 .f32) //
      ∀ (xi5 : Vec F S2000x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ d, owns (c : Thread nD τ) arg8 fullShare d) ∗ (∃ f, arg9.view.loc (c : Thread nD τ) ↦[arg9.view.set]{fullShare} arg9.view.writes (Elt F) f LS2)) -∗ K ⟨⟩))
          ⊢ wp frame (wpE (defs₀ (F := F)) Variants.none c none) E (cc0_int4_dgrad i arg1 harg1 arg2 harg2 arg3 harg3 arg4 harg4 arg5 harg5 arg6 harg6 arg7 harg7 arg8 harg8 arg9 harg9) K } := by
  refine ⟨[], ?_, ?_, fun xi5 E K => ?run⟩
  case run =>
    simp only [cc0_int4_dgrad_eq_skeleton]; unfold cc0_int4_dgrad_skel
    simp only [k0_part26_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    have hrd := @w_read F _
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]
    · iexists _, _; isplitr; swap; · iexact HS1
      ipureintro; rfl
    iexists _; iexact HS2

end Cert.Kernel.Gen

end
-- ==== Proof.Bits.RunB.lean ====
/- The run of the whole kernel body in case B of its two conditions. -/
module

public import proofs.«01_k».proof.Proof.Bits.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
set_option backward.proofsInPublic true in
-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 30: 30 of 32), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) :
    Σ' (L5 : List (View.Piece (Elt F) S2000x2048 .bf16)), Σ' (LS0 : List (View.Piece (Elt F) S2048x128 .i32)), { LS2 : List (View.Piece (Elt F) S2000x2048 .f32) //
      ∀ (xi5 : Vec F S2000x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ (∃ d, owns (c : Thread nD τ) arg8 fullShare d) ∗ (∃ f, arg9.view.loc (c : Thread nD τ) ↦[arg9.view.set]{fullShare} arg9.view.writes (Elt F) f LS2)) -∗ K ⟨⟩))
          ⊢ wp frame (wpE (defs₀ (F := F)) Variants.none c none) E (cc0_int4_dgrad i arg1 harg1 arg2 harg2 arg3 harg3 arg4 harg4 arg5 harg5 arg6 harg6 arg7 harg7 arg8 harg8 arg9 harg9) K } := by
  refine ⟨[], [], ?_, fun xi5 E K => ?run⟩
  case run =>
    simp only [cc0_int4_dgrad_eq_skeleton]; unfold cc0_int4_dgrad_skel
    simp only [k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg9.eq_unread hfs2
    have hrd := @w_read F _
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    isplitl [HS1]
    · iexists _, _; isplitr; swap; · iexact HS1
      ipureintro; rfl
    iexists _; iexact HS2

end Cert.Kernel.Gen

end
-- ==== Proof.Bits.RunC.lean ====
/- The run of the whole kernel body in case C of its two conditions. -/
module

public import proofs.«01_k».proof.Proof.Bits.RunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
set_option backward.proofsInPublic true in
-- (the run's proof term is large: the definition's epilogue — `abstractNestedProofs` — walks it past the default budget)
set_option maxHeartbeats 1000000 in
/-- What the body's stores leave in each output's staging memref, as pieces (last first) IN CASE C (`scf.if` 0 not taken, `scf.if` 1 taken: points 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) :
    Σ' (L5 : List (View.Piece (Elt F) S2000x2048 .bf16)), Σ' (LS0 : List (View.Piece (Elt F) S2048x128 .i32)), { LS2 : List (View.Piece (Elt F) S2000x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (∃ d, owns (c : Thread nD τ) arg8 fullShare d) ∗ (∃ f, arg9.view.loc (c : Thread nD τ) ↦[arg9.view.set]{fullShare} arg9.view.writes (Elt F) f LS2)) -∗ K ⟨⟩))
          ⊢ wp frame (wpE (defs₀ (F := F)) Variants.none c none) E (cc0_int4_dgrad i arg1 harg1 arg2 harg2 arg3 harg3 arg4 harg4 arg5 harg5 arg6 harg6 arg7 harg7 arg8 harg8 arg9 harg9) K } := by
  refine ⟨?_, [], ?_, fun E K => ?run⟩
  case run =>
    simp only [cc0_int4_dgrad_eq_skeleton]; unfold cc0_int4_dgrad_skel
    simp only [k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg9.eq_unread hfs2
    have hrd := @w_read F _
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]
    · iexists _, _; isplitr; swap; · iexact HS1
      ipureintro; rfl
    iexists _; iexact HS2

end Cert.Kernel.Gen

end
-- ==== Proof.Bits.Frame.lean ====
/- What the carried scratch and the output hold point by point, the proof data, the body obligation, the run of the program and its frame. -/
module

public import proofs.«01_k».proof.Proof.Bits.RunC
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) : Vec F S2000x2048 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1 x2 x3 x4).1)

/-- Case A's pieces for scratch `arg7`, which the kernel carries between points, cover it: 16 pieces of `S128x128` tiling it (Lib/Ring.lean `Piece.tiledL`). -/
theorem scover0_A_0 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) (y : S2048x128.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.1 S128x128.size (by sl_kernel_rfl) y

/-- What case A leaves in scratch `arg7`: its pieces read back over junk. -/
def sout0_A_0 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) : Vec F S2048x128 .i32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4).2.1)

/-- Case A's pieces for scratch `arg9`, which the kernel carries between points, cover it: 2 pieces of `S2000x2048` tiling it (Lib/Ring.lean `Piece.tiledL`). -/
theorem scover0_A_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) (y : S2000x2048.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.2.1 S2000x2048.size (by sl_kernel_rfl) y

/-- What case A leaves in scratch `arg9`: its pieces read back over junk. -/
def sout0_A_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) : Vec F S2000x2048 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 hc0 hc1 x0 x1 x2 x3 x4).2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2000x2048 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 x2 x3 x4 xs0 xs2).1)

/-- Case B stores nothing into scratch `arg7`: it holds what the point before left. -/
def sout0_B_0 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2048x128 .i32 := xs0

/-- Case B's pieces for scratch `arg9`, which the kernel carries between points, cover it: 1 piece of `S2000x2048` tiling it (Lib/Ring.lean `Piece.tiledL`). -/
theorem scover0_B_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) (y : S2000x2048.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs2).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs2).2.2.1 S2000x2048.size (by sl_kernel_rfl) y

/-- What case B leaves in scratch `arg9`: its pieces read back over junk. -/
def sout0_B_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2000x2048 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 hc0 hc1 x0 x1 x2 x3 x4 xs0 xs2).2.2.1)

/-- Case C's pieces for output 5 tile its block (1 store of `S2000x2048`, checked by the kernel's evaluation: Lib/Ring.lean `Piece.tiledL`, linear in the pieces, through a loop's `@[irreducible]` trip theorem too), so they cover it. -/
theorem cover0_C_5 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) (y : S2000x2048.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs2).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs2).1 S2000x2048.size (by sl_kernel_rfl) y

/-- What case C leaves in output 5's staging buffer: its pieces read back over junk. -/
def out0_C_5 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2000x2048 .bf16 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 x4 xs0 xs2).1)

/-- Case C stores nothing into scratch `arg7`: it holds what the point before left. -/
def sout0_C_0 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2048x128 .i32 := xs0

/-- Case C's pieces for scratch `arg9`, which the kernel carries between points, cover it: 1 piece of `S2000x2048` tiling it (Lib/Ring.lean `Piece.tiledL`). -/
theorem scover0_C_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) (y : S2000x2048.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs2).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs2).2.2.1 S2000x2048.size (by sl_kernel_rfl) y

/-- What case C leaves in scratch `arg9`: its pieces read back over junk. -/
def sout0_C_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2000x2048 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 hc0 hc1 x0 x1 x2 x3 x4 xs0 xs2).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2000x2048 .bf16 × Vec F S2048x128 .i32 × Vec F S2000x2048 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 32 = 0 then
      if h1 : (n + 1) % 32 = 31 then
        False.elim (by have hN : n + 1 < 32 := lt_of_lt_of_eq hn (show cfg0.N = 32 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 32 = 31 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 32 = 0) (h1 : ¬t.val % 32 = 31) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ owns (c : Thread nD τ) scM0_2 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, HS1, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · iexact HS1
            unfold owns; iexists _; isplitr
            swap; · iexact HS2
            ipureintro; exact View.read_writes_of_cover _ _ _ _ _ (scover0_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; have hN : t.val < 32 := lt_of_lt_of_eq t.isLt (show cfg0.N = 32 from N_0); omega
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold out0_C_5 sout0_C_0 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold sout0_B_0 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Ideal.Runs.lean ====
/- What the three runs of the kernel body share: its branch conditions over the grid's points, where the windows are idle, the staging
   and scratch buffers, and the weight scratch after the two dequantizing loops. -/
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S2000x2048 .bf16 := (Memref.whole cc0_stg5_0 : Memref sig .tc .vmem S2000x2048 .bf16).view
/-- Each window's current staging memref at point `t`, spelled as the pipeline passes it (`bodyAt0`), and its wholeness. -/
abbrev ms0_0 (t : Fin cfg0.N) : Memref sig .tc .vmem S2000x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2000x2048 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2048x128 .i32 := Memref.whole cc0_scratch0
abbrev scM0_1 : Memref sig .tc .vmem S2048x256 .bf16 := Memref.whole cc0_scratch1
abbrev scM0_2 : Memref sig .tc .vmem S2000x2048 .f32 := Memref.whole cc0_scratch2
/-- The scratch `arg7` the kernel carries between points, as a view: what it holds is stated through it. -/
abbrev VS0_0 : View sig .tc .vmem S2048x128 .i32 := scM0_0.view
/-- The scratch `arg9` the kernel carries between points, as a view: what it holds is stated through it. -/
abbrev VS0_2 : View sig .tc .vmem S2000x2048 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The weight scratch after the two counted loops -/

/-- The pieces the two counted loops store into the weight scratch, last first: the second loop's (columns 128 to 255), then
    the first's (columns 0 to 127). -/
abbrev wPieces (𝒱 : Variants) (c : Dev nD) (bd : Option 𝒱.V) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (v3 : Vec F S16x128 .bf16) (v4 : Vec F S8x128 .i8) (v15 : Vec F S16x128 .bf16) (v16 : Vec F S8x128 .i8) (X_arg2 : BufTy.Contents (Elt F) arg2.view.ty) (X_arg7 : BufTy.Contents (Elt F) arg7.view.ty) : List (View.Piece (Elt F) S2048x256 .bf16) :=
  (pb_k0_t2 (F := F) 𝒱 c bd i arg1 harg1 arg2 harg2 arg3 harg3 arg4 harg4 arg5 harg5 arg6 harg6 arg7 harg7 arg8 harg8 arg9 harg9 v15 v16 X_arg2 X_arg7 (Scf.trips k0_t2_loop.lb k0_t2_loop.ub k0_t2_loop.st)) ++ (pb_k0_t1 (F := F) 𝒱 c bd i arg1 harg1 arg2 harg2 arg3 harg3 arg4 harg4 arg5 harg5 arg6 harg6 arg7 harg7 arg8 harg8 arg9 harg9 v3 v4 X_arg2 X_arg7 (Scf.trips k0_t1_loop.lb k0_t1_loop.ub k0_t1_loop.st))

/-- What a load of the weight scratch reads once both loops have run does not depend on what the scratch held before: the
    pieces tile it. -/
theorem w_read (𝒱 : Variants) (c : Dev nD) (bd : Option 𝒱.V) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (v3 : Vec F S16x128 .bf16) (v4 : Vec F S8x128 .i8) (v15 : Vec F S16x128 .bf16) (v16 : Vec F S8x128 .i8) (X_arg2 : BufTy.Contents (Elt F) arg2.view.ty) (X_arg7 : BufTy.Contents (Elt F) arg7.view.ty) (f : BufTy.Contents (Elt F) arg8.view.ty) (B : LoadRect S2048x256) :
    arg8.view.readAt (Elt F) B (arg8.view.writes (Elt F) f ((pb_k0_t2 (F := F) 𝒱 c bd i arg1 harg1 arg2 harg2 arg3 harg3 arg4 harg4 arg5 harg5 arg6 harg6 arg7 harg7 arg8 harg8 arg9 harg9 v15 v16 X_arg2 X_arg7 (Scf.trips k0_t2_loop.lb k0_t2_loop.ub k0_t2_loop.st)) ++ (pb_k0_t1 (F := F) 𝒱 c bd i arg1 harg1 arg2 harg2 arg3 harg3 arg4 harg4 arg5 harg5 arg6 harg6 arg7 harg7 arg8 harg8 arg9 harg9 v3 v4 X_arg2 X_arg7 (Scf.trips k0_t1_loop.lb k0_t1_loop.ub k0_t1_loop.st))))
      = arg8.view.readCov (wPieces 𝒱 c bd i arg1 harg1 arg2 harg2 arg3 harg3 arg4 harg4 arg5 harg5 arg6 harg6 arg7 harg7 arg8 harg8 arg9 harg9 v3 v4 v15 v16 X_arg2 X_arg7) B :=
  View.readAt_writes_of_cover _ f _ B (fun j => View.cover_of_tiledL (wPieces 𝒱 c bd i arg1 harg1 arg2 harg2 arg3 harg3 arg4 harg4 arg5 harg5 arg6 harg6 arg7 harg7 arg8 harg8 arg9 harg9 v3 v4 v15 v16 X_arg2 X_arg7) S16x128.size (by sl_kernel_rfl) (B.idx j))

end Cert.KernelIdeal.Gen

end
-- ==== Proof.Ideal.RunA.lean ====
/- The run of the whole kernel body in case A of its two conditions. -/
module

public import proofs.«01_k».proof.Proof.Ideal.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.proofsInPublic true in
-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) :
    Σ' (L5 : List (View.Piece (Elt F) S2000x2048 .bf16)), Σ' (LS0 : List (View.Piece (Elt F) S2048x128 .i32)), { LS2 : List (View.Piece (Elt F) S2000x2048 .f32) //
      ∀ (xi5 : Vec F S2000x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0) ∗ (∃ d, owns (c : Thread nD τ) arg8 fullShare d) ∗ (∃ f, arg9.view.loc (c : Thread nD τ) ↦[arg9.view.set]{fullShare} arg9.view.writes (Elt F) f LS2)) -∗ K ⟨⟩))
          ⊢ wp frame (wpE (defs₀ (F := F)) Variants.none c none) E (cc0_int4_dgrad i arg1 harg1 arg2 harg2 arg3 harg3 arg4 harg4 arg5 harg5 arg6 harg6 arg7 harg7 arg8 harg8 arg9 harg9) K } := by
  refine ⟨[], ?_, ?_, fun xi5 E K => ?run⟩
  case run =>
    simp only [cc0_int4_dgrad_eq_skeleton]; unfold cc0_int4_dgrad_skel
    simp only [k0_part26_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    have hrd := @w_read F _
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]
    · iexists _, _; isplitr; swap; · iexact HS1
      ipureintro; rfl
    iexists _; iexact HS2

end Cert.KernelIdeal.Gen

end
-- ==== Proof.Ideal.RunB.lean ====
/- The run of the whole kernel body in case B of its two conditions. -/
module

public import proofs.«01_k».proof.Proof.Ideal.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.proofsInPublic true in
-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 30: 30 of 32), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) :
    Σ' (L5 : List (View.Piece (Elt F) S2000x2048 .bf16)), Σ' (LS0 : List (View.Piece (Elt F) S2048x128 .i32)), { LS2 : List (View.Piece (Elt F) S2000x2048 .f32) //
      ∀ (xi5 : Vec F S2000x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0 ∗ (∃ d, owns (c : Thread nD τ) arg8 fullShare d) ∗ (∃ f, arg9.view.loc (c : Thread nD τ) ↦[arg9.view.set]{fullShare} arg9.view.writes (Elt F) f LS2)) -∗ K ⟨⟩))
          ⊢ wp frame (wpE (defs₀ (F := F)) Variants.none c none) E (cc0_int4_dgrad i arg1 harg1 arg2 harg2 arg3 harg3 arg4 harg4 arg5 harg5 arg6 harg6 arg7 harg7 arg8 harg8 arg9 harg9) K } := by
  refine ⟨[], [], ?_, fun xi5 E K => ?run⟩
  case run =>
    simp only [cc0_int4_dgrad_eq_skeleton]; unfold cc0_int4_dgrad_skel
    simp only [k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg9.eq_unread hfs2
    have hrd := @w_read F _
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    isplitl [HS1]
    · iexists _, _; isplitr; swap; · iexact HS1
      ipureintro; rfl
    iexists _; iexact HS2

end Cert.KernelIdeal.Gen

end
-- ==== Proof.Ideal.RunC.lean ====
/- The run of the whole kernel body in case C of its two conditions. -/
module

public import proofs.«01_k».proof.Proof.Ideal.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.proofsInPublic true in
-- (the run's proof term is large: the definition's epilogue — `abstractNestedProofs` — walks it past the default budget)
set_option maxHeartbeats 1000000 in
/-- What the body's stores leave in each output's staging memref, as pieces (last first) IN CASE C (`scf.if` 0 not taken, `scf.if` 1 taken: points 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) :
    Σ' (L5 : List (View.Piece (Elt F) S2000x2048 .bf16)), Σ' (LS0 : List (View.Piece (Elt F) S2048x128 .i32)), { LS2 : List (View.Piece (Elt F) S2000x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (∃ d, owns (c : Thread nD τ) arg8 fullShare d) ∗ (∃ f, arg9.view.loc (c : Thread nD τ) ↦[arg9.view.set]{fullShare} arg9.view.writes (Elt F) f LS2)) -∗ K ⟨⟩))
          ⊢ wp frame (wpE (defs₀ (F := F)) Variants.none c none) E (cc0_int4_dgrad i arg1 harg1 arg2 harg2 arg3 harg3 arg4 harg4 arg5 harg5 arg6 harg6 arg7 harg7 arg8 harg8 arg9 harg9) K } := by
  refine ⟨?_, [], ?_, fun E K => ?run⟩
  case run =>
    simp only [cc0_int4_dgrad_eq_skeleton]; unfold cc0_int4_dgrad_skel
    simp only [k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0; obtain rfl := harg9.eq_unread hfs2
    have hrd := @w_read F _
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    isplitl [HS1]
    · iexists _, _; isplitr; swap; · iexact HS1
      ipureintro; rfl
    iexists _; iexact HS2

end Cert.KernelIdeal.Gen

end
-- ==== Proof.Ideal.Frame.lean ====
/- What the carried scratch and the output hold point by point, the proof data, the body obligation, the run of the program and its frame. -/
module

public import proofs.«01_k».proof.Proof.Ideal.RunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) : Vec F S2000x2048 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1 x2 x3 x4).1)

/-- Case A's pieces for scratch `arg7`, which the kernel carries between points, cover it: 16 pieces of `S128x128` tiling it (Lib/Ring.lean `Piece.tiledL`). -/
theorem scover0_A_0 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) (y : S2048x128.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.1 S128x128.size (by sl_kernel_rfl) y

/-- What case A leaves in scratch `arg7`: its pieces read back over junk. -/
def sout0_A_0 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) : Vec F S2048x128 .i32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4).2.1)

/-- Case A's pieces for scratch `arg9`, which the kernel carries between points, cover it: 2 pieces of `S2000x2048` tiling it (Lib/Ring.lean `Piece.tiledL`). -/
theorem scover0_A_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) (y : S2000x2048.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).2.2.1 S2000x2048.size (by sl_kernel_rfl) y

/-- What case A leaves in scratch `arg9`: its pieces read back over junk. -/
def sout0_A_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec F S2000x256 .bf16) (x1 : Vec F S1024x256 .i8) (x2 : Vec F S16x256 .bf16) (x3 : Vec F S8x256 .i8) (x4 : Vec F S16x128 .i32) : Vec F S2000x2048 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 hc0 hc1 x0 x1 x2 x3 x4).2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2000x2048 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 x2 x3 x4 xs0 xs2).1)

/-- Case B stores nothing into scratch `arg7`: it holds what the point before left. -/
def sout0_B_0 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2048x128 .i32 := xs0

/-- Case B's pieces for scratch `arg9`, which the kernel carries between points, cover it: 1 piece of `S2000x2048` tiling it (Lib/Ring.lean `Piece.tiledL`). -/
theorem scover0_B_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) (y : S2000x2048.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs2).2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs2).2.2.1 S2000x2048.size (by sl_kernel_rfl) y

/-- What case B leaves in scratch `arg9`: its pieces read back over junk. -/
def sout0_B_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2000x2048 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 hc0 hc1 x0 x1 x2 x3 x4 xs0 xs2).2.2.1)

/-- Case C's pieces for output 5 tile its block (1 store of `S2000x2048`, checked by the kernel's evaluation: Lib/Ring.lean `Piece.tiledL`, linear in the pieces, through a loop's `@[irreducible]` trip theorem too), so they cover it. -/
theorem cover0_C_5 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) (y : S2000x2048.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs2).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs2).1 S2000x2048.size (by sl_kernel_rfl) y

/-- What case C leaves in output 5's staging buffer: its pieces read back over junk. -/
def out0_C_5 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2000x2048 .bf16 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 x4 xs0 xs2).1)

/-- Case C stores nothing into scratch `arg7`: it holds what the point before left. -/
def sout0_C_0 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2048x128 .i32 := xs0

/-- Case C's pieces for scratch `arg9`, which the kernel carries between points, cover it: 1 piece of `S2000x2048` tiling it (Lib/Ring.lean `Piece.tiledL`). -/
theorem scover0_C_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) (y : S2000x2048.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs2).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs2).2.2.1 S2000x2048.size (by sl_kernel_rfl) y

/-- What case C leaves in scratch `arg9`: its pieces read back over junk. -/
def sout0_C_2 (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec F S2000x256 .bf16) (x1 : Vec F S1024x256 .i8) (x2 : Vec F S16x256 .bf16) (x3 : Vec F S8x256 .i8) (x4 : Vec F S16x128 .i32) (xs0 : Vec F S2048x128 .i32) (xs2 : Vec F S2000x2048 .f32) : Vec F S2000x2048 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 hc0 hc1 x0 x1 x2 x3 x4 xs0 xs2).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2000x2048 .bf16 × Vec F S2048x128 .i32 × Vec F S2000x2048 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 32 = 0 then
      if h1 : (n + 1) % 32 = 31 then
        False.elim (by have hN : n + 1 < 32 := lt_of_lt_of_eq hn (show cfg0.N = 32 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 32 = 31 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 32 = 0) (h1 : ¬t.val % 32 = 31) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ owns (c : Thread nD τ) scM0_2 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, HS1, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            isplitl [HS1]
            · iexact HS1
            unfold owns; iexists _; isplitr
            swap; · iexact HS2
            ipureintro; exact View.read_writes_of_cover _ _ _ _ _ (scover0_A_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · exfalso; have hN : t.val < 32 := lt_of_lt_of_eq t.isLt (show cfg0.N = 32 from N_0); omega
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold out0_C_5 sout0_C_0 sout0_C_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold sout0_B_0 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, HS0, HS1, ⟨%es2, HS2⟩⟩
        isplitl [HS0 HS1 HS2 Hg]
        · isplitl [HS0 HS1 HS2]
          · isplitl [HS0]
            · iexact HS0
            isplitl [HS1]
            · iexact HS1
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Value.Dq.lean ====
/- One store of the dequantised weight block, as a term of the five vectors it is made of. -/
module

public import proofs.«01_k».proof.Proof.Ideal.Runs

@[expose] public section

noncomputable section

namespace Cert.KernelIdeal.Value

open Cert.KernelIdeal Cert.KernelIdeal.Gen Idealize.ShloMosaic

variable {F : FTy → Type} [FloatOps F]

/-- The row numbers a gather along rows reads, a negative one wrapped, through the shape with a trailing unit axis. -/
def wrapIdx (i : IVec S8x128 32) : IVec S8x128 32 :=
  shapeCast S8x128 (shapeCast S8x128x1 (select (cmpi .slt i (broadcast S8x128 0#32)) (addi i (broadcast S8x128 8#32)) i)
    shapeCasts_S8x128_S8x128x1) shapeCasts_S8x128x1_S8x128

/-- Row `idx` of a sixteen-row table, element by element: the eight rows below and the eight above gathered by the low
    three bits, the index choosing between the two. -/
def pick {α : Type} (T : S16x128.Idx → α) (idx : IVec S8x128 32) : S8x128.Idx → α :=
  select (cmpi .slt idx (broadcast S8x128 8#32))
    (dynamicGather 0 (extractStridedSlice S8x128 ![0, 0] T slices_S16x128_o0_0_S8x128) (wrapIdx (andi idx (broadcast S8x128 7#32))))
    (dynamicGather 0 (extractStridedSlice S8x128 ![8, 0] T slices_S16x128_o8_0_S8x128) (wrapIdx (andi idx (broadcast S8x128 7#32))))

/-- The words holding two biased codes each. -/
def codeWord (b : IVec S8x128 32) : IVec S8x128 32 :=
  ori (andi (ori b (shli b (broadcast S8x128 12#32))) (broadcast S8x128 983055#32)) (broadcast S8x128 1124090624#32)

/-- The words holding two biased zero points each. -/
def zeroWord (Z : IVec S16x128 32) (ev od : IVec S8x128 32) : IVec S8x128 32 :=
  ori (shli (pick Z od) (broadcast S8x128 16#32)) (andi (pick Z ev) (broadcast S8x128 65535#32))

/-- Sixteen rows of weights: the codes less the zero points, times the scales, even rows and odd rows interleaved. -/
def dq (b ev od : IVec S8x128 32) (S : FVec F S16x128 .f32) (Z : IVec S16x128 32) : FVec F S16x128 .bf16 :=
  shapeCast S16x128 (mulf
    (subf (bitcastToFloat .bf16 (bitcast S16x128 16 (codeWord b) bitcasts_S8x128_w32_S16x128_w16))
      (bitcastToFloat .bf16 (bitcast S16x128 16 (zeroWord Z ev od) bitcasts_S8x128_w32_S16x128_w16)))
    (interleaveRows S16x128 (truncf .bf16 (pick S ev) bitsLt_bf16_f32) (truncf .bf16 (pick S od) bitsLt_bf16_f32) bitcasts_S16x128_w16_S8x128_w32))
    shapeCasts_S16x128_S16x128

end Cert.KernelIdeal.Value

end
-- ==== Proof.Value.DqValue.lean ====
/- The value of one dequantised weight over the extended reals. -/
module

public import proofs.«01_k».proof.Proof.Value.Dq
public import Idealize.ShloMosaic.Lib.Pointwise
public import Idealize.ShloMosaic.Lib.BitcastPair

@[expose] public section

noncomputable section

namespace Cert.KernelIdeal.Value

open Cert.KernelIdeal Cert.KernelIdeal.Gen Idealize.ShloMosaic

/-- The four-bit field `p` of a byte: the low one for `p = 0`, the high one otherwise. -/
def nib (q : BitVec 8) (p : Nat) : Nat := if p = 0 then q.toNat % 16 else q.toNat / 16

/-- A field is below sixteen. -/
theorem nib_lt (q : BitVec 8) (p : Nat) : nib q p < 16 := by
  unfold nib; have := q.isLt; split <;> omega

/-- The bf16 pattern `0x4300 + n` denotes `128 + n`. -/
theorem bias_bf16 (n : Fin 16) : Ideal.ofBits .bf16 (BitVec.ofNat 16 (17152 + n.val)) = (((128 + n.val : ℕ) : ℝ) : EReal) := by
  fin_cases n <;> simp [Ideal.ofBits, Ideal.ieee, -EReal.coe_mul] <;> norm_num

/-- The word with two biased codes that a byte makes. -/
def codeW (b : BitVec 32) : BitVec 32 :=
  IntOp.ori (IntOp.andi (IntOp.ori b (IntOp.shli ArithUnit.vector b 12#32)) 983055#32) 1124090624#32

/-- The word with two biased zero points. -/
def zeroW (o e : BitVec 32) : BitVec 32 :=
  IntOp.ori (IntOp.shli ArithUnit.vector o 16#32) (IntOp.andi e 65535#32)

/-- The low half of a code word is the biased low field. -/
theorem code_lo : ∀ n : Fin 256, (codeW (BitVec.setWidth 32 (BitVec.ofNat 8 n.val))).extractLsb' 0 16
    = BitVec.ofNat 16 (17152 + n.val % 16) := by decide +kernel

/-- The high half of a code word is the biased high field. -/
theorem code_hi : ∀ n : Fin 256, (codeW (BitVec.setWidth 32 (BitVec.ofNat 8 n.val))).extractLsb' 16 16
    = BitVec.ofNat 16 (17152 + n.val / 16) := by decide +kernel

/-- Half `p` of a code word is the biased field `p`. -/
theorem code_half (q : BitVec 8) (p : Nat) (hp : p < 2) :
    (codeW (BitVec.setWidth 32 q)).extractLsb' (16 * p) 16 = BitVec.ofNat 16 (17152 + nib q p) := by
  have h0 := code_lo ⟨q.toNat, q.isLt⟩
  have h1 := code_hi ⟨q.toNat, q.isLt⟩
  simp only [BitVec.ofNat_toNat, BitVec.setWidth_eq] at h0 h1
  obtain rfl | rfl : p = 0 ∨ p = 1 := by omega
  · simpa [nib] using h0
  · simpa [nib] using h1

/-- The low half of a zero word is the even row's word. -/
theorem zero_lo : ∀ a b : Fin 16, (zeroW (BitVec.ofNat 32 (17152 + a.val)) (BitVec.ofNat 32 (17152 + b.val))).extractLsb' 0 16
    = BitVec.ofNat 16 (17152 + b.val) := by decide +kernel

/-- The high half of a zero word is the odd row's word. -/
theorem zero_hi : ∀ a b : Fin 16, (zeroW (BitVec.ofNat 32 (17152 + a.val)) (BitVec.ofNat 32 (17152 + b.val))).extractLsb' 16 16
    = BitVec.ofNat 16 (17152 + a.val) := by decide +kernel

/-- Half `p` of a zero word is the even row's zero point or the odd row's. -/
theorem zero_half (p a b : Nat) (hp : p < 2) (ha : a < 16) (hb : b < 16) :
    (zeroW (BitVec.ofNat 32 (17152 + a)) (BitVec.ofNat 32 (17152 + b))).extractLsb' (16 * p) 16
      = BitVec.ofNat 16 (17152 + if p = 0 then b else a) := by
  obtain rfl | rfl : p = 0 ∨ p = 1 := by omega
  · simpa using zero_lo ⟨a, ha⟩ ⟨b, hb⟩
  · simpa using zero_hi ⟨a, ha⟩ ⟨b, hb⟩

/-- The comparison of a row number below sixteen with eight. -/
theorem row_lt : ∀ n : Fin 16, IntOp.cmpi CmpIPredicate.slt (BitVec.ofNat 32 n.val) 8#32 = if n.val < 8 then 1#1 else 0#1 := by decide +kernel

/-- The low three bits of a row number below sixteen. -/
def lowW (i : BitVec 32) : BitVec 32 :=
  Scalar.select (IntOp.cmpi CmpIPredicate.slt (IntOp.andi i 7#32) 0#32) (IntOp.addi (IntOp.andi i 7#32) 8#32) (IntOp.andi i 7#32)

/-- They are its remainder by eight. -/
theorem low_row : ∀ n : Fin 16, (lowW (BitVec.ofNat 32 n.val)).toNat = n.val % 8 := by decide +kernel

/-- Picking by an index below sixteen reads that row of the table. -/
theorem pick_apply {α : Type} (T : S16x128.Idx → α) (idx : IVec S8x128 32) (a : Fin 8) (l : Fin 128) (n : Fin 16)
    (h : (idx (ix2 a l)).toNat = n.val) : pick T idx (ix2 a l) = T (ix2 n l) := by
  have hi : idx (ix2 a l) = BitVec.ofNat 32 n.val := by rw [← h]; simp
  have hl : (lowW (idx (ix2 a l))).toNat = n.val % 8 := by rw [hi]; exact low_row n
  pointwise [pick, wrapIdx]
  by_cases hn : n.val < 8
  · have hc : IntOp.cmpi CmpIPredicate.slt (idx (ix2 a l)) 8#32 = 1#1 := by rw [hi, row_lt n, if_pos hn]
    rw [hc]
    refine congrArg T (congrArg (fun k => ix2 k l) (Fin.ext ?_))
    show (lowW (idx (ix2 a l))).toNat % 8 = n.val
    omega
  · have hc : IntOp.cmpi CmpIPredicate.slt (idx (ix2 a l)) 8#32 = 0#1 := by rw [hi, row_lt n, if_neg hn]
    rw [hc]
    refine congrArg T (congrArg (fun k => ix2 k l) (Fin.ext ?_))
    show 8 + (lowW (idx (ix2 a l))).toNat % 8 = n.val
    have := n.isLt
    omega

/-- The word of a zero point, low field. -/
theorem zlo : ∀ n : Fin 256, IntOp.ori (IntOp.andi (BitVec.setWidth 32 (BitVec.ofNat 8 n.val)) 15#32) 17152#32 = BitVec.ofNat 32 (17152 + n.val % 16) := by
  decide +kernel

/-- The word of a zero point, high field. -/
theorem zhi : ∀ n : Fin 256, IntOp.ori (IntOp.shrsi ArithUnit.vector (BitVec.setWidth 32 (BitVec.ofNat 8 n.val)) 4#32) 17152#32 = BitVec.ofNat 32 (17152 + n.val / 16) := by
  decide +kernel

/-- A table of zero points holds the biased fields: the low ones in the first eight rows, the high ones in the last. -/
theorem zeros_apply (v4 : IVec S8x128 8) (g : Fin 16) (l : Fin 128) :
    k0_pay112 (F := Ideal) v4 (ix2 g l) = BitVec.ofNat 32 (17152 + nib (v4 (ix2 ⟨g.val % 8, Nat.mod_lt _ (by decide)⟩ l)) (g.val / 8)) := by
  pointwise [k0_pay112]
  by_cases hg : g.val < 8
  · rw [dif_pos hg]
    have h0 := zlo ⟨(v4 (ix2 ⟨g.val % 8, Nat.mod_lt _ (by decide)⟩ l)).toNat, (v4 _).isLt⟩
    simp only [BitVec.ofNat_toNat, BitVec.setWidth_eq] at h0
    have e : (⟨g.val, hg⟩ : Fin 8) = ⟨g.val % 8, Nat.mod_lt _ (by decide)⟩ := Fin.ext (Nat.mod_eq_of_lt hg).symm
    rw [nib, if_pos (by omega : g.val / 8 = 0), e]
    exact h0
  · rw [dif_neg hg]
    have hlt := g.isLt
    have h0 := zhi ⟨(v4 (ix2 ⟨g.val % 8, Nat.mod_lt _ (by decide)⟩ l)).toNat, (v4 _).isLt⟩
    simp only [BitVec.ofNat_toNat, BitVec.setWidth_eq] at h0
    have e : (⟨g.val - 8, by omega⟩ : Fin 8) = ⟨g.val % 8, Nat.mod_lt _ (by decide)⟩ := Fin.ext (by show g.val - 8 = g.val % 8; omega)
    rw [nib, if_neg (by omega : ¬ g.val / 8 = 0), e]
    exact h0

/-- A weight: the code less the zero point, times the scale. -/
def wt (c z : Nat) (s : EReal) : EReal := (((c : ℝ) : EReal) - ((z : ℝ) : EReal)) * s

/-- Two biased fields differ as the fields do. -/
theorem bias_sub (c z : Nat) : ((((128 + c : ℕ) : ℝ) : EReal) - (((128 + z : ℕ) : ℝ) : EReal)) = ((c : ℝ) : EReal) - ((z : ℝ) : EReal) := by
  rw [← EReal.coe_sub, ← EReal.coe_sub]
  congr 1
  push_cast
  ring

/-- Row `r` of words read at half width is half `r % 2` of word row `r / 2`. -/
theorem halves_apply (x : IVec S8x128 32) (r : Fin 16) (l : Fin 128) :
    bitcast S16x128 16 x bitcasts_S8x128_w32_S16x128_w16 (ix2 r l) = (x (ix2 ⟨r.val / 2, by omega⟩ l)).extractLsb' (16 * (r.val % 2)) 16 := by
  rw [bitcast_32_16]
  have hsrc : ∀ h, bitcasts_S8x128_w32_S16x128_w16.srcIdx (ix2 r l) (S16x128.row (ix2 r l) / 2) h = ix2 ⟨r.val / 2, by omega⟩ l := by
    intro h
    funext a
    fin_cases a <;> rfl
  rw [hsrc]
  rfl

/-- One dequantised weight, the rows its two zero points and scales are read at given. -/
theorem dq_apply (b ev od : IVec S8x128 32) (S : FVec Ideal S16x128 .f32) (v4 : IVec S8x128 8) (r : Fin 16) (l : Fin 128)
    (q : BitVec 8) (hb : b (ix2 ⟨r.val / 2, by omega⟩ l) = BitVec.setWidth 32 q) (ne no g : Fin 16)
    (hev : (ev (ix2 ⟨r.val / 2, by omega⟩ l)).toNat = ne.val) (hod : (od (ix2 ⟨r.val / 2, by omega⟩ l)).toNat = no.val)
    (hg : g = if r.val % 2 = 0 then ne else no) :
    dq b ev od S (k0_pay112 (F := Ideal) v4) (ix2 r l)
      = wt (nib q (r.val % 2)) (nib (v4 (ix2 ⟨g.val % 8, Nat.mod_lt _ (by decide)⟩ l)) (g.val / 8)) (S (ix2 g l)) := by
  pointwise [dq, codeWord, zeroWord, halves_apply]
  rw [pick_apply _ ev _ l ne hev, pick_apply _ od _ l no hod, pick_apply _ ev _ l ne hev, pick_apply _ od _ l no hod, hb, zeros_apply, zeros_apply]
  have hp : r.val % 2 < 2 := Nat.mod_lt _ (by decide)
  have hc := code_half q _ hp
  have hz := zero_half (r.val % 2) _ _ hp (nib_lt (v4 (ix2 ⟨no.val % 8, Nat.mod_lt _ (by decide)⟩ l)) (no.val / 8))
    (nib_lt (v4 (ix2 ⟨ne.val % 8, Nat.mod_lt _ (by decide)⟩ l)) (ne.val / 8))
  unfold codeW at hc
  unfold zeroW at hz
  rw [hc, hz]
  have hbc := bias_bf16 ⟨_, nib_lt q (r.val % 2)⟩
  have hbz := bias_bf16 ⟨_, nib_lt (v4 (ix2 ⟨g.val % 8, Nat.mod_lt _ (by decide)⟩ l)) (g.val / 8)⟩
  by_cases h : r.val % 2 = 0
  · rw [if_pos h] at hg ⊢
    subst hg
    rw [if_pos h, hbc, hbz, bias_sub]
    rfl
  · rw [if_neg h] at hg ⊢
    subst hg
    rw [if_neg h, hbc, hbz, bias_sub]
    rfl

end Cert.KernelIdeal.Value

end
-- ==== Proof.Value.Weights.lean ====
/- The dequantised weight block as one function of the blocks it is made from, and one store's agreement with it. -/
module

public import proofs.«01_k».proof.Proof.Value.DqValue
public import Idealize.ShloMosaic.Lib.WholeRead
public import Idealize.ShloMosaic.Lib.Pipeline.ValueKit

@[expose] public section

noncomputable section

namespace Cert.KernelIdeal.Value

open Cert.KernelIdeal Cert.KernelIdeal.Gen Idealize.ShloMosaic Idealize.ShloMosaic.TcCoe

/-- A rank-two array read at two natural numbers, each taken modulo its extent. -/
def e2 {α : Type} {A B : Nat} [NeZero A] [NeZero B] (T : (⟨2, ![A, B]⟩ : Shape).Idx → α) (a b : Nat) : α :=
  T (ix2 (Fin.ofNat A a) (Fin.ofNat B b))

/-- An element at an index is the element at its two coordinates. -/
theorem e2_of {α : Type} {A B : Nat} [NeZero A] [NeZero B] (T : (⟨2, ![A, B]⟩ : Shape).Idx → α) (i : (⟨2, ![A, B]⟩ : Shape).Idx) (a b : Nat)
    (h0 : (i 0).val = a) (h1 : (i 1).val = b) : T i = e2 T a b := by
  subst h0 h1
  refine congrArg T (funext fun x => ?_)
  fin_cases x
  · exact Fin.ext (Nat.mod_eq_of_lt (i 0).isLt).symm
  · exact Fin.ext (Nat.mod_eq_of_lt (i 1).isLt).symm

/-- Element `(n, c)` of the weight block: the code of row `n`, less the zero point of its group, times the scale of its group. -/
def wgt (q : Vec Ideal S1024x256 .i8) (s : Vec Ideal S16x256 .bf16) (z : Vec Ideal S8x256 .i8) (gi : Vec Ideal S2048x128 .i32) (n c : Nat) : EReal :=
  wt (nib (e2 (α := BitVec 8) q (n / 2) c) (n % 2))
    (nib (e2 (α := BitVec 8) z ((e2 (α := BitVec 32) gi n (c % 128)).toNat % 8) c) ((e2 (α := BitVec 32) gi n (c % 128)).toNat / 8))
    (e2 (α := EReal) s (e2 (α := BitVec 32) gi n (c % 128)).toNat c)

/-- The weight block. -/
def wblk (q : Vec Ideal S1024x256 .i8) (s : Vec Ideal S16x256 .bf16) (z : Vec Ideal S8x256 .i8) (gi : Vec Ideal S2048x128 .i32) : Vec Ideal S2048x256 .bf16 :=
  fun y => wgt q s z gi (y 0).val (y 1).val

/-- Sixteen rows the body stores are the weight block at the rectangle it stores them in. -/
theorem piece_apply (arg2 : Memref sig .tc .vmem S1024x256 .i8) (harg2 : arg2.IsWhole) (arg7 : Memref sig .tc .vmem S2048x128 .i32) (harg7 : arg7.IsWhole)
    (q : Vec Ideal S1024x256 .i8) (s : Vec Ideal S16x256 .bf16) (z : Vec Ideal S8x256 .i8) (gi : Vec Ideal S2048x128 .i32)
    (hr : ∀ n l, (e2 (α := BitVec 32) gi n l).toNat < 16) (k u co : Nat) (hk : k < 32) (hu : u < 4) (hco : co = 0 ∨ co = 128)
    (v3 : Vec Ideal S16x128 .bf16) (hv3 : ∀ (g : Fin 16) (l : Fin 128), v3 (ix2 g l) = e2 (α := EReal) s g.val (co + l.val))
    (v4 : Vec Ideal S8x128 .i8) (hv4 : ∀ (g : Fin 8) (l : Fin 128), v4 (ix2 g l) = e2 (α := BitVec 8) z g.val (co + l.val))
    (offq : Fin 2 → Nat) (hq : offq = ![32 * k, co]) (inbq : ∀ a, offq a + S32x128.size a ≤ S1024x256.size a)
    (offe : Fin 2 → Nat) (he : offe = ![64 * k + 16 * u, 0]) (inbe : ∀ a, S8x128.size a = 0 ∨ offe a + ![2, 1] a * (S8x128.size a - 1) < S2048x128.size a)
    (offo : Fin 2 → Nat) (ho : offo = ![64 * k + 16 * u + 1, 0]) (inbo : ∀ a, S8x128.size a = 0 ∨ offo a + ![2, 1] a * (S8x128.size a - 1) < S2048x128.size a)
    (offw : Fin 2 → Nat) (hw : offw = ![64 * k + 16 * u, co]) (inbw : ∀ a, offw a + S16x128.size a ≤ S2048x256.size a)
    (offu : Fin 2 → Nat) (hou : offu = ![8 * u, 0]) (hs : S32x128.Slices offu S8x128) (x : S16x128.Idx) :
    dq (F := Ideal) (extractStridedSlice S8x128 offu (extui (s := S32x128) 32 (View.readAt (Elt Ideal) arg2.view (Rect.unit (s := S1024x256) offq S32x128.size inbq).toLoadRect (harg2.unread q)) natLt_8_32) hs)
        (View.readAt (Elt Ideal) arg7.view (⟨offe, S8x128.size, ![2, 1], inbe⟩ : LoadRect S2048x128) (harg7.unread gi))
        (View.readAt (Elt Ideal) arg7.view (⟨offo, S8x128.size, ![2, 1], inbo⟩ : LoadRect S2048x128) (harg7.unread gi))
        (extf .f32 v3 bitsLt_bf16_f32) (k0_pay112 v4) x
      = wblk q s z gi ((Rect.unit (s := S2048x256) offw S16x128.size inbw).emb x) := by
  subst hq he ho hw hou
  obtain ⟨r, l, rfl⟩ : ∃ (r : Fin 16) (l : Fin 128), x = ix2 r l := ⟨x 0, x 1, by funext a; fin_cases a <;> rfl⟩
  have hrl := r.isLt
  have hll := l.isLt
  have hE : View.readAt (Elt Ideal) arg7.view (⟨![64 * k + 16 * u, 0], S8x128.size, ![2, 1], inbe⟩ : LoadRect S2048x128) (harg7.unread gi) (ix2 ⟨r.val / 2, by omega⟩ l)
      = e2 (α := BitVec 32) gi (64 * k + 16 * u + 2 * (r.val / 2)) l.val := by
    rw [harg7.readAt_unread]
    refine e2_of (α := BitVec 32) gi _ _ _ ?_ ?_
    · rfl
    · show 0 + 1 * l.val = l.val
      omega
  have hO : View.readAt (Elt Ideal) arg7.view (⟨![64 * k + 16 * u + 1, 0], S8x128.size, ![2, 1], inbo⟩ : LoadRect S2048x128) (harg7.unread gi) (ix2 ⟨r.val / 2, by omega⟩ l)
      = e2 (α := BitVec 32) gi (64 * k + 16 * u + 1 + 2 * (r.val / 2)) l.val := by
    rw [harg7.readAt_unread]
    refine e2_of (α := BitVec 32) gi _ _ _ ?_ ?_
    · rfl
    · show 0 + 1 * l.val = l.val
      omega
  have hB : extractStridedSlice S8x128 ![8 * u, 0] (extui (s := S32x128) 32 (View.readAt (Elt Ideal) arg2.view (Rect.unit (s := S1024x256) ![32 * k, co] S32x128.size inbq).toLoadRect (harg2.unread q)) natLt_8_32) hs (ix2 ⟨r.val / 2, by omega⟩ l)
      = BitVec.setWidth 32 (e2 (α := BitVec 8) q (32 * k + 8 * u + r.val / 2) (co + l.val)) := by
    pointwise
    congr 1
    rw [harg2.readAt_unread]
    refine e2_of (α := BitVec 8) q _ _ _ ?_ ?_
    · show 32 * k + 1 * (8 * u + r.val / 2) = _
      omega
    · show co + 1 * l.val = co + l.val
      omega
  have hn : (((Rect.unit (s := S2048x256) ![64 * k + 16 * u, co] S16x128.size inbw).emb (ix2 r l)) 0).val = 64 * k + 16 * u + r.val := by
    show 64 * k + 16 * u + 1 * r.val = _
    omega
  have hc : (((Rect.unit (s := S2048x256) ![64 * k + 16 * u, co] S16x128.size inbw).emb (ix2 r l)) 1).val = co + l.val := by
    show co + 1 * l.val = _
    omega
  rw [dq_apply _ _ _ _ v4 r l _ hB ⟨_, hr (64 * k + 16 * u + 2 * (r.val / 2)) l.val⟩ ⟨_, hr (64 * k + 16 * u + 1 + 2 * (r.val / 2)) l.val⟩
    (if r.val % 2 = 0 then ⟨_, hr (64 * k + 16 * u + 2 * (r.val / 2)) l.val⟩ else ⟨_, hr (64 * k + 16 * u + 1 + 2 * (r.val / 2)) l.val⟩)
    (by rw [hE]) (by rw [hO]) rfl, hv4]
  rw [show wblk q s z gi ((Rect.unit (s := S2048x256) ![64 * k + 16 * u, co] S16x128.size inbw).emb (ix2 r l))
      = wgt q s z gi (64 * k + 16 * u + r.val) (co + l.val) by unfold wblk; rw [hn, hc]]
  have hl : (co + l.val) % 128 = l.val := by omega
  have hg : (if r.val % 2 = 0 then (⟨_, hr (64 * k + 16 * u + 2 * (r.val / 2)) l.val⟩ : Fin 16) else ⟨_, hr (64 * k + 16 * u + 1 + 2 * (r.val / 2)) l.val⟩)
      = ⟨_, hr (64 * k + 16 * u + r.val) l.val⟩ := by
    by_cases h : r.val % 2 = 0
    · rw [if_pos h]
      refine Fin.ext ?_
      show (e2 (α := BitVec 32) gi _ _).toNat = (e2 (α := BitVec 32) gi _ _).toNat
      rw [show 64 * k + 16 * u + 2 * (r.val / 2) = 64 * k + 16 * u + r.val by omega]
    · rw [if_neg h]
      refine Fin.ext ?_
      show (e2 (α := BitVec 32) gi _ _).toNat = (e2 (α := BitVec 32) gi _ _).toNat
      rw [show 64 * k + 16 * u + 1 + 2 * (r.val / 2) = 64 * k + 16 * u + r.val by omega]
  rw [hg]
  unfold wgt
  rw [hl, show (64 * k + 16 * u + r.val) / 2 = 32 * k + 8 * u + r.val / 2 by omega, show (64 * k + 16 * u + r.val) % 2 = r.val % 2 by omega]
  refine congrArg _ ?_
  exact hv3 _ _

end Cert.KernelIdeal.Value

end
-- ==== Proof.Value.Trip1.lean ====
/- One trip of the loop over columns 0 to 127: its four stores as dequantised rows. -/
module

public import proofs.«01_k».proof.Proof.Value.Dq
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem

variable {F : FTy → Type} [FloatOps F]

/-- A trip's four stores, last first: sixteen dequantised rows each. -/
theorem tripL_t1 (𝒱 : Variants) (c : Dev nD) (bd : Option 𝒱.V) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (v3 : Vec F S16x128 .bf16) (v4 : Vec F S8x128 .i8) (X_arg2 : BufTy.Contents (Elt F) arg2.view.ty) (X_arg7 : BufTy.Contents (Elt F) arg7.view.ty) (k : Fin k0_t1_loop.trips) :
    tripL_k0_t1 (F := F) 𝒱 c bd i arg1 harg1 arg2 harg2 arg3 harg3 arg4 harg4 arg5 harg5 arg6 harg6 arg7 harg7 arg8 harg8 arg9 harg9 v3 v4 X_arg2 X_arg7 k =
      [⟨Rect.unit (s := S2048x256) (k0_off4 k 48#32) S16x128.size (k0_off4_inb k 3),
        dq (extractStridedSlice S8x128 ![24, 0] (extui (s := S32x128) 32 (View.readAt (Elt F) arg2.view (Rect.unit (s := S1024x256) (k0_off1 k) S32x128.size (k0_off1_inb k)).toLoadRect X_arg2) natLt_8_32) slices_S32x128_o24_0_S8x128)
          (View.readAt (Elt F) arg7.view (⟨k0_off2 k 48#32, S8x128.size, ![2, 1], (k0_off2_inb k 3)⟩ : LoadRect S2048x128) X_arg7)
          (View.readAt (Elt F) arg7.view (⟨k0_off3 k 48#32, S8x128.size, ![2, 1], (k0_off3_inb k 3)⟩ : LoadRect S2048x128) X_arg7)
          (extf .f32 v3 bitsLt_bf16_f32) (k0_pay112 v4)⟩,
       ⟨Rect.unit (s := S2048x256) (k0_off4 k 32#32) S16x128.size (k0_off4_inb k 2),
        dq (extractStridedSlice S8x128 ![16, 0] (extui (s := S32x128) 32 (View.readAt (Elt F) arg2.view (Rect.unit (s := S1024x256) (k0_off1 k) S32x128.size (k0_off1_inb k)).toLoadRect X_arg2) natLt_8_32) slices_S32x128_o16_0_S8x128)
          (View.readAt (Elt F) arg7.view (⟨k0_off2 k 32#32, S8x128.size, ![2, 1], (k0_off2_inb k 2)⟩ : LoadRect S2048x128) X_arg7)
          (View.readAt (Elt F) arg7.view (⟨k0_off3 k 32#32, S8x128.size, ![2, 1], (k0_off3_inb k 2)⟩ : LoadRect S2048x128) X_arg7)
          (extf .f32 v3 bitsLt_bf16_f32) (k0_pay112 v4)⟩,
       ⟨Rect.unit (s := S2048x256) (k0_off4 k 16#32) S16x128.size (k0_off4_inb k 1),
        dq (extractStridedSlice S8x128 ![8, 0] (extui (s := S32x128) 32 (View.readAt (Elt F) arg2.view (Rect.unit (s := S1024x256) (k0_off1 k) S32x128.size (k0_off1_inb k)).toLoadRect X_arg2) natLt_8_32) slices_S32x128_o8_0_S8x128)
          (View.readAt (Elt F) arg7.view (⟨k0_off2 k 16#32, S8x128.size, ![2, 1], (k0_off2_inb k 1)⟩ : LoadRect S2048x128) X_arg7)
          (View.readAt (Elt F) arg7.view (⟨k0_off3 k 16#32, S8x128.size, ![2, 1], (k0_off3_inb k 1)⟩ : LoadRect S2048x128) X_arg7)
          (extf .f32 v3 bitsLt_bf16_f32) (k0_pay112 v4)⟩,
       ⟨Rect.unit (s := S2048x256) (k0_off4 k 0#32) S16x128.size (k0_off4_inb k 0),
        dq (extractStridedSlice S8x128 ![0, 0] (extui (s := S32x128) 32 (View.readAt (Elt F) arg2.view (Rect.unit (s := S1024x256) (k0_off1 k) S32x128.size (k0_off1_inb k)).toLoadRect X_arg2) natLt_8_32) slices_S32x128_o0_0_S8x128)
          (View.readAt (Elt F) arg7.view (⟨k0_off2 k 0#32, S8x128.size, ![2, 1], (k0_off2_inb k 0)⟩ : LoadRect S2048x128) X_arg7)
          (View.readAt (Elt F) arg7.view (⟨k0_off3 k 0#32, S8x128.size, ![2, 1], (k0_off3_inb k 0)⟩ : LoadRect S2048x128) X_arg7)
          (extf .f32 v3 bitsLt_bf16_f32) (k0_pay112 v4)⟩] := by
  unfold tripL_k0_t1 trip_k0_t1
  dsimp only
  sl_unfold_run_names
  rfl

end Cert.KernelIdeal.Value

end
-- ==== Proof.Value.Trip2.lean ====
/- One trip of the loop over columns 128 to 255: its four stores as dequantised rows. -/
module

public import proofs.«01_k».proof.Proof.Value.Dq
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem

variable {F : FTy → Type} [FloatOps F]

/-- A trip's four stores, last first: sixteen dequantised rows each. -/
theorem tripL_t2 (𝒱 : Variants) (c : Dev nD) (bd : Option 𝒱.V) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (v15 : Vec F S16x128 .bf16) (v16 : Vec F S8x128 .i8) (X_arg2 : BufTy.Contents (Elt F) arg2.view.ty) (X_arg7 : BufTy.Contents (Elt F) arg7.view.ty) (k : Fin k0_t2_loop.trips) :
    tripL_k0_t2 (F := F) 𝒱 c bd i arg1 harg1 arg2 harg2 arg3 harg3 arg4 harg4 arg5 harg5 arg6 harg6 arg7 harg7 arg8 harg8 arg9 harg9 v15 v16 X_arg2 X_arg7 k =
      [⟨Rect.unit (s := S2048x256) (k0_off8 k 48#32) S16x128.size (k0_off8_inb k 3),
        dq (extractStridedSlice S8x128 ![24, 0] (extui (s := S32x128) 32 (View.readAt (Elt F) arg2.view (Rect.unit (s := S1024x256) (k0_off5 k) S32x128.size (k0_off5_inb k)).toLoadRect X_arg2) natLt_8_32) slices_S32x128_o24_0_S8x128)
          (View.readAt (Elt F) arg7.view (⟨k0_off6 k 48#32, S8x128.size, ![2, 1], (k0_off6_inb k 3)⟩ : LoadRect S2048x128) X_arg7)
          (View.readAt (Elt F) arg7.view (⟨k0_off7 k 48#32, S8x128.size, ![2, 1], (k0_off7_inb k 3)⟩ : LoadRect S2048x128) X_arg7)
          (extf .f32 v15 bitsLt_bf16_f32) (k0_pay112 v16)⟩,
       ⟨Rect.unit (s := S2048x256) (k0_off8 k 32#32) S16x128.size (k0_off8_inb k 2),
        dq (extractStridedSlice S8x128 ![16, 0] (extui (s := S32x128) 32 (View.readAt (Elt F) arg2.view (Rect.unit (s := S1024x256) (k0_off5 k) S32x128.size (k0_off5_inb k)).toLoadRect X_arg2) natLt_8_32) slices_S32x128_o16_0_S8x128)
          (View.readAt (Elt F) arg7.view (⟨k0_off6 k 32#32, S8x128.size, ![2, 1], (k0_off6_inb k 2)⟩ : LoadRect S2048x128) X_arg7)
          (View.readAt (Elt F) arg7.view (⟨k0_off7 k 32#32, S8x128.size, ![2, 1], (k0_off7_inb k 2)⟩ : LoadRect S2048x128) X_arg7)
          (extf .f32 v15 bitsLt_bf16_f32) (k0_pay112 v16)⟩,
       ⟨Rect.unit (s := S2048x256) (k0_off8 k 16#32) S16x128.size (k0_off8_inb k 1),
        dq (extractStridedSlice S8x128 ![8, 0] (extui (s := S32x128) 32 (View.readAt (Elt F) arg2.view (Rect.unit (s := S1024x256) (k0_off5 k) S32x128.size (k0_off5_inb k)).toLoadRect X_arg2) natLt_8_32) slices_S32x128_o8_0_S8x128)
          (View.readAt (Elt F) arg7.view (⟨k0_off6 k 16#32, S8x128.size, ![2, 1], (k0_off6_inb k 1)⟩ : LoadRect S2048x128) X_arg7)
          (View.readAt (Elt F) arg7.view (⟨k0_off7 k 16#32, S8x128.size, ![2, 1], (k0_off7_inb k 1)⟩ : LoadRect S2048x128) X_arg7)
          (extf .f32 v15 bitsLt_bf16_f32) (k0_pay112 v16)⟩,
       ⟨Rect.unit (s := S2048x256) (k0_off8 k 0#32) S16x128.size (k0_off8_inb k 0),
        dq (extractStridedSlice S8x128 ![0, 0] (extui (s := S32x128) 32 (View.readAt (Elt F) arg2.view (Rect.unit (s := S1024x256) (k0_off5 k) S32x128.size (k0_off5_inb k)).toLoadRect X_arg2) natLt_8_32) slices_S32x128_o0_0_S8x128)
          (View.readAt (Elt F) arg7.view (⟨k0_off6 k 0#32, S8x128.size, ![2, 1], (k0_off6_inb k 0)⟩ : LoadRect S2048x128) X_arg7)
          (View.readAt (Elt F) arg7.view (⟨k0_off7 k 0#32, S8x128.size, ![2, 1], (k0_off7_inb k 0)⟩ : LoadRect S2048x128) X_arg7)
          (extf .f32 v15 bitsLt_bf16_f32) (k0_pay112 v16)⟩] := by
  unfold tripL_k0_t2 trip_k0_t2
  dsimp only
  sl_unfold_run_names
  rfl

end Cert.KernelIdeal.Value

end
-- ==== Proof.Value.Scratch.lean ====
/- The weight scratch after both dequantising loops is the weight block. -/
module

public import proofs.«01_k».proof.Proof.Value.Weights
public import proofs.«01_k».proof.Proof.Value.Trip1
public import proofs.«01_k».proof.Proof.Value.Trip2

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem

/-- Every store of one trip of the loop over columns 0 to 127 agrees with the weight block. -/
theorem trip_pieces_t1 (𝒱 : Variants) (c : Dev nD) (bd : Option 𝒱.V) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole)
    (q : Vec Ideal S1024x256 .i8) (s : Vec Ideal S16x256 .bf16) (z : Vec Ideal S8x256 .i8) (gi : Vec Ideal S2048x128 .i32)
    (hr : ∀ n l, (e2 (α := BitVec 32) gi n l).toNat < 16)
    (v3 : Vec Ideal S16x128 .bf16) (hv3 : ∀ (g : Fin 16) (l : Fin 128), v3 (ix2 g l) = e2 (α := EReal) s g.val (0 + l.val))
    (v4 : Vec Ideal S8x128 .i8) (hv4 : ∀ (g : Fin 8) (l : Fin 128), v4 (ix2 g l) = e2 (α := BitVec 8) z g.val (0 + l.val)) (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 v3 v4 (harg2.unread q) (harg7.unread gi) k, ∀ x : p.1.shape.Idx, p.2 x = wblk q s z gi (p.1.emb x) := by
  have hk : k.val < 32 := Nat.lt_of_lt_of_eq k.isLt (by decide +kernel)
  rw [tripL_t1]
  intro p hp
  simp only [List.mem_cons, List.not_mem_nil, or_false] at hp
  obtain rfl | rfl | rfl | rfl := hp
  · intro x
    exact piece_apply arg2 harg2 arg7 harg7 q s z gi hr k.val 3 0 hk (by decide) (by decide) v3 hv3 v4 hv4
      (k0_off1 k) (k0_off1_eq k) (k0_off1_inb k) (k0_off2 k 48#32) (k0_off2_eq k 3) (k0_off2_inb k 3) (k0_off3 k 48#32) (k0_off3_eq k 3) (k0_off3_inb k 3)
      (k0_off4 k 48#32) (k0_off4_eq k 3) (k0_off4_inb k 3) ![24, 0] rfl _ x
  · intro x
    exact piece_apply arg2 harg2 arg7 harg7 q s z gi hr k.val 2 0 hk (by decide) (by decide) v3 hv3 v4 hv4
      (k0_off1 k) (k0_off1_eq k) (k0_off1_inb k) (k0_off2 k 32#32) (k0_off2_eq k 2) (k0_off2_inb k 2) (k0_off3 k 32#32) (k0_off3_eq k 2) (k0_off3_inb k 2)
      (k0_off4 k 32#32) (k0_off4_eq k 2) (k0_off4_inb k 2) ![16, 0] rfl _ x
  · intro x
    exact piece_apply arg2 harg2 arg7 harg7 q s z gi hr k.val 1 0 hk (by decide) (by decide) v3 hv3 v4 hv4
      (k0_off1 k) (k0_off1_eq k) (k0_off1_inb k) (k0_off2 k 16#32) (k0_off2_eq k 1) (k0_off2_inb k 1) (k0_off3 k 16#32) (k0_off3_eq k 1) (k0_off3_inb k 1)
      (k0_off4 k 16#32) (k0_off4_eq k 1) (k0_off4_inb k 1) ![8, 0] rfl _ x
  · intro x
    exact piece_apply arg2 harg2 arg7 harg7 q s z gi hr k.val 0 0 hk (by decide) (by decide) v3 hv3 v4 hv4
      (k0_off1 k) (k0_off1_eq k) (k0_off1_inb k) (k0_off2 k 0#32) (k0_off2_eq k 0) (k0_off2_inb k 0) (k0_off3 k 0#32) (k0_off3_eq k 0) (k0_off3_inb k 0)
      (k0_off4 k 0#32) (k0_off4_eq k 0) (k0_off4_inb k 0) ![0, 0] rfl _ x

/-- So does every store of its first `n` trips. -/
theorem loop_pieces_t1 (𝒱 : Variants) (c : Dev nD) (bd : Option 𝒱.V) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole)
    (q : Vec Ideal S1024x256 .i8) (s : Vec Ideal S16x256 .bf16) (z : Vec Ideal S8x256 .i8) (gi : Vec Ideal S2048x128 .i32)
    (hr : ∀ n l, (e2 (α := BitVec 32) gi n l).toNat < 16)
    (v3 : Vec Ideal S16x128 .bf16) (hv3 : ∀ (g : Fin 16) (l : Fin 128), v3 (ix2 g l) = e2 (α := EReal) s g.val (0 + l.val))
    (v4 : Vec Ideal S8x128 .i8) (hv4 : ∀ (g : Fin 8) (l : Fin 128), v4 (ix2 g l) = e2 (α := BitVec 8) z g.val (0 + l.val)) :
    ∀ n : Nat, n ≤ k0_t1_loop.trips →
    ∀ p ∈ pb_k0_t1 (F := Ideal) 𝒱 c bd i arg1 harg1 arg2 harg2 arg3 harg3 arg4 harg4 arg5 harg5 arg6 harg6 arg7 harg7 arg8 harg8 arg9 harg9 v3 v4 (harg2.unread q) (harg7.unread gi) n, ∀ x : p.1.shape.Idx, p.2 x = wblk q s z gi (p.1.emb x)
  | 0, _ => fun p hp => absurd hp (by rw [pb_k0_t1]; exact List.not_mem_nil)
  | n + 1, hn => fun p hp => by
    rw [pb_k0_t1_succ 𝒱 c bd i arg1 harg1 arg2 harg2 arg3 harg3 arg4 harg4 arg5 harg5 arg6 harg6 arg7 harg7 arg8 harg8 arg9 harg9 v3 v4 (harg2.unread q) (harg7.unread gi) ⟨n, hn⟩] at hp
    rcases List.mem_append.1 hp with hp | hp
    · exact trip_pieces_t1 𝒱 c bd i arg1 harg1 arg2 harg2 arg3 harg3 arg4 harg4 arg5 harg5 arg6 harg6 arg7 harg7 arg8 harg8 arg9 harg9 q s z gi hr v3 hv3 v4 hv4 ⟨n, hn⟩ p hp
    · exact loop_pieces_t1 𝒱 c bd i arg1 harg1 arg2 harg2 arg3 harg3 arg4 harg4 arg5 harg5 arg6 harg6 arg7 harg7 arg8 harg8 arg9 harg9 q s z gi hr v3 hv3 v4 hv4 n (Nat.le_of_succ_le hn) p hp

/-- Every store of one trip of the loop over columns 128 to 255 agrees with the weight block. -/
theorem trip_pieces_t2 (𝒱 : Variants) (c : Dev nD) (bd : Option 𝒱.V) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole)
    (q : Vec Ideal S1024x256 .i8) (s : Vec Ideal S16x256 .bf16) (z : Vec Ideal S8x256 .i8) (gi : Vec Ideal S2048x128 .i32)
    (hr : ∀ n l, (e2 (α := BitVec 32) gi n l).toNat < 16)
    (v15 : Vec Ideal S16x128 .bf16) (hv15 : ∀ (g : Fin 16) (l : Fin 128), v15 (ix2 g l) = e2 (α := EReal) s g.val (128 + l.val))
    (v16 : Vec Ideal S8x128 .i8) (hv16 : ∀ (g : Fin 8) (l : Fin 128), v16 (ix2 g l) = e2 (α := BitVec 8) z g.val (128 + l.val)) (k : Fin k0_t2_loop.trips) :
    ∀ p ∈ tripL_k0_t2 (F := Ideal) 𝒱 c bd i arg1 harg1 arg2 harg2 arg3 harg3 arg4 harg4 arg5 harg5 arg6 harg6 arg7 harg7 arg8 harg8 arg9 harg9 v15 v16 (harg2.unread q) (harg7.unread gi) k, ∀ x : p.1.shape.Idx, p.2 x = wblk q s z gi (p.1.emb x) := by
  have hk : k.val < 32 := Nat.lt_of_lt_of_eq k.isLt (by decide +kernel)
  rw [tripL_t2]
  intro p hp
  simp only [List.mem_cons, List.not_mem_nil, or_false] at hp
  obtain rfl | rfl | rfl | rfl := hp
  · intro x
    exact piece_apply arg2 harg2 arg7 harg7 q s z gi hr k.val 3 128 hk (by decide) (by decide) v15 hv15 v16 hv16
      (k0_off5 k) (k0_off5_eq k) (k0_off5_inb k) (k0_off6 k 48#32) (k0_off6_eq k 3) (k0_off6_inb k 3) (k0_off7 k 48#32) (k0_off7_eq k 3) (k0_off7_inb k 3)
      (k0_off8 k 48#32) (k0_off8_eq k 3) (k0_off8_inb k 3) ![24, 0] rfl _ x
  · intro x
    exact piece_apply arg2 harg2 arg7 harg7 q s z gi hr k.val 2 128 hk (by decide) (by decide) v15 hv15 v16 hv16
      (k0_off5 k) (k0_off5_eq k) (k0_off5_inb k) (k0_off6 k 32#32) (k0_off6_eq k 2) (k0_off6_inb k 2) (k0_off7 k 32#32) (k0_off7_eq k 2) (k0_off7_inb k 2)
      (k0_off8 k 32#32) (k0_off8_eq k 2) (k0_off8_inb k 2) ![16, 0] rfl _ x
  · intro x
    exact piece_apply arg2 harg2 arg7 harg7 q s z gi hr k.val 1 128 hk (by decide) (by decide) v15 hv15 v16 hv16
      (k0_off5 k) (k0_off5_eq k) (k0_off5_inb k) (k0_off6 k 16#32) (k0_off6_eq k 1) (k0_off6_inb k 1) (k0_off7 k 16#32) (k0_off7_eq k 1) (k0_off7_inb k 1)
      (k0_off8 k 16#32) (k0_off8_eq k 1) (k0_off8_inb k 1) ![8, 0] rfl _ x
  · intro x
    exact piece_apply arg2 harg2 arg7 harg7 q s z gi hr k.val 0 128 hk (by decide) (by decide) v15 hv15 v16 hv16
      (k0_off5 k) (k0_off5_eq k) (k0_off5_inb k) (k0_off6 k 0#32) (k0_off6_eq k 0) (k0_off6_inb k 0) (k0_off7 k 0#32) (k0_off7_eq k 0) (k0_off7_inb k 0)
      (k0_off8 k 0#32) (k0_off8_eq k 0) (k0_off8_inb k 0) ![0, 0] rfl _ x

/-- So does every store of its first `n` trips. -/
theorem loop_pieces_t2 (𝒱 : Variants) (c : Dev nD) (bd : Option 𝒱.V) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole)
    (q : Vec Ideal S1024x256 .i8) (s : Vec Ideal S16x256 .bf16) (z : Vec Ideal S8x256 .i8) (gi : Vec Ideal S2048x128 .i32)
    (hr : ∀ n l, (e2 (α := BitVec 32) gi n l).toNat < 16)
    (v15 : Vec Ideal S16x128 .bf16) (hv15 : ∀ (g : Fin 16) (l : Fin 128), v15 (ix2 g l) = e2 (α := EReal) s g.val (128 + l.val))
    (v16 : Vec Ideal S8x128 .i8) (hv16 : ∀ (g : Fin 8) (l : Fin 128), v16 (ix2 g l) = e2 (α := BitVec 8) z g.val (128 + l.val)) :
    ∀ n : Nat, n ≤ k0_t2_loop.trips →
    ∀ p ∈ pb_k0_t2 (F := Ideal) 𝒱 c bd i arg1 harg1 arg2 harg2 arg3 harg3 arg4 harg4 arg5 harg5 arg6 harg6 arg7 harg7 arg8 harg8 arg9 harg9 v15 v16 (harg2.unread q) (harg7.unread gi) n, ∀ x : p.1.shape.Idx, p.2 x = wblk q s z gi (p.1.emb x)
  | 0, _ => fun p hp => absurd hp (by rw [pb_k0_t2]; exact List.not_mem_nil)
  | n + 1, hn => fun p hp => by
    rw [pb_k0_t2_succ 𝒱 c bd i arg1 harg1 arg2 harg2 arg3 harg3 arg4 harg4 arg5 harg5 arg6 harg6 arg7 harg7 arg8 harg8 arg9 harg9 v15 v16 (harg2.unread q) (harg7.unread gi) ⟨n, hn⟩] at hp
    rcases List.mem_append.1 hp with hp | hp
    · exact trip_pieces_t2 𝒱 c bd i arg1 harg1 arg2 harg2 arg3 harg3 arg4 harg4 arg5 harg5 arg6 harg6 arg7 harg7 arg8 harg8 arg9 harg9 q s z gi hr v15 hv15 v16 hv16 ⟨n, hn⟩ p hp
    · exact loop_pieces_t2 𝒱 c bd i arg1 harg1 arg2 harg2 arg3 harg3 arg4 harg4 arg5 harg5 arg6 harg6 arg7 harg7 arg8 harg8 arg9 harg9 q s z gi hr v15 hv15 v16 hv16 n (Nat.le_of_succ_le hn) p hp

/-- A load of the whole weight scratch after both loops reads the weight block. -/
theorem w_value (𝒱 : Variants) (c : Dev nD) (bd : Option 𝒱.V) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole)
    (q : Vec Ideal S1024x256 .i8) (s : Vec Ideal S16x256 .bf16) (z : Vec Ideal S8x256 .i8) (gi : Vec Ideal S2048x128 .i32)
    (hr : ∀ n l, (e2 (α := BitVec 32) gi n l).toNat < 16)
    (v3 : Vec Ideal S16x128 .bf16) (hv3 : ∀ (g : Fin 16) (l : Fin 128), v3 (ix2 g l) = e2 (α := EReal) s g.val (0 + l.val))
    (v4 : Vec Ideal S8x128 .i8) (hv4 : ∀ (g : Fin 8) (l : Fin 128), v4 (ix2 g l) = e2 (α := BitVec 8) z g.val (0 + l.val))
    (v15 : Vec Ideal S16x128 .bf16) (hv15 : ∀ (g : Fin 16) (l : Fin 128), v15 (ix2 g l) = e2 (α := EReal) s g.val (128 + l.val))
    (v16 : Vec Ideal S8x128 .i8) (hv16 : ∀ (g : Fin 8) (l : Fin 128), v16 (ix2 g l) = e2 (α := BitVec 8) z g.val (128 + l.val))
    (B : LoadRect S2048x256) (x : B.shape.Idx) :
    arg8.view.readCov (wPieces (F := Ideal) 𝒱 c bd i arg1 harg1 arg2 harg2 arg3 harg3 arg4 harg4 arg5 harg5 arg6 harg6 arg7 harg7 arg8 harg8 arg9 harg9 v3 v4 v15 v16 (harg2.unread q) (harg7.unread gi)) B x = wblk q s z gi (B.idx x) := by
  have hcov : ∀ y, ∃ p ∈ wPieces (F := Ideal) 𝒱 c bd i arg1 harg1 arg2 harg2 arg3 harg3 arg4 harg4 arg5 harg5 arg6 harg6 arg7 harg7 arg8 harg8 arg9 harg9 v3 v4 v15 v16 (harg2.unread q) (harg7.unread gi), y ∈ p.1.set :=
    fun y => View.cover_of_tiledL (wPieces (F := Ideal) 𝒱 c bd i arg1 harg1 arg2 harg2 arg3 harg3 arg4 harg4 arg5 harg5 arg6 harg6 arg7 harg7 arg8 harg8 arg9 harg9 v3 v4 v15 v16 (harg2.unread q) (harg7.unread gi)) S16x128.size (by sl_kernel_rfl) y
  rw [View.readCov]
  have e := View.read_writes_junk_eq_canon arg8.view (wPieces (F := Ideal) 𝒱 c bd i arg1 harg1 arg2 harg2 arg3 harg3 arg4 harg4 arg5 harg5 arg6 harg6 arg7 harg7 arg8 harg8 arg9 harg9 v3 v4 v15 v16 (harg2.unread q) (harg7.unread gi))
  refine (congrFun e (B.idx x)).trans (View.canon_apply_of_pieces (wblk q s z gi) _ ?_ _ (hcov _))
  intro p hp
  rcases List.mem_append.1 hp with hp | hp
  · exact loop_pieces_t2 𝒱 c bd i arg1 harg1 arg2 harg2 arg3 harg3 arg4 harg4 arg5 harg5 arg6 harg6 arg7 harg7 arg8 harg8 arg9 harg9 q s z gi hr v15 hv15 v16 hv16 _ (Nat.le_refl _) p hp
  · exact loop_pieces_t1 𝒱 c bd i arg1 harg1 arg2 harg2 arg3 harg3 arg4 harg4 arg5 harg5 arg6 harg6 arg7 harg7 arg8 harg8 arg9 harg9 q s z gi hr v3 hv3 v4 hv4 _ (Nat.le_refl _) p hp

end Cert.KernelIdeal.Value

end
-- ==== Proof.Value.Opened.lean ====
/- What each case of the body leaves in the carried scratch and in the output, in terms of the payloads. -/
module

public import proofs.«01_k».proof.Proof.Value.Scratch
public import proofs.«01_k».proof.Proof.Ideal.Frame

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem

/-- A row of group indices, each spread over a row of 128 lanes. -/
def giRow (v : Vec Ideal S1x128 .i32) : Vec Ideal S128x128 .i32 :=
  shapeCast S128x128 (transpose S128x128 [1, 0] (broadcastTo S128x128 (shapeCast S1x128 (shapeCast S1x128 v shapeCasts_S1x128_S1x128) shapeCasts_S1x128_S1x128) broadcasts_S1x128_S128x128) transposes_S128x128_p1_0_S128x128) shapeCasts_S128x128_S128x128

/-- The sixteen stores that fill the index scratch, last first. -/
def giPieces (arg5 : Memref sig .tc .vmem S16x128 .i32) (harg5 : arg5.IsWhole) (x4 : Vec Ideal S16x128 .i32) : List (View.Piece (Elt Ideal) S2048x128 .i32) :=
  [⟨Rect.unit (s := S2048x128) ![1920, 0] S128x128.size inb_S2048x128_S128x128_1920_0, giRow (View.readAt (Elt Ideal) arg5.view (Rect.unit (s := S16x128) ![15, 0] S1x128.size inb_S16x128_S1x128_15_0).toLoadRect (harg5.unread x4))⟩,
   ⟨Rect.unit (s := S2048x128) ![1792, 0] S128x128.size inb_S2048x128_S128x128_1792_0, giRow (View.readAt (Elt Ideal) arg5.view (Rect.unit (s := S16x128) ![14, 0] S1x128.size inb_S16x128_S1x128_14_0).toLoadRect (harg5.unread x4))⟩,
   ⟨Rect.unit (s := S2048x128) ![1664, 0] S128x128.size inb_S2048x128_S128x128_1664_0, giRow (View.readAt (Elt Ideal) arg5.view (Rect.unit (s := S16x128) ![13, 0] S1x128.size inb_S16x128_S1x128_13_0).toLoadRect (harg5.unread x4))⟩,
   ⟨Rect.unit (s := S2048x128) ![1536, 0] S128x128.size inb_S2048x128_S128x128_1536_0, giRow (View.readAt (Elt Ideal) arg5.view (Rect.unit (s := S16x128) ![12, 0] S1x128.size inb_S16x128_S1x128_12_0).toLoadRect (harg5.unread x4))⟩,
   ⟨Rect.unit (s := S2048x128) ![1408, 0] S128x128.size inb_S2048x128_S128x128_1408_0, giRow (View.readAt (Elt Ideal) arg5.view (Rect.unit (s := S16x128) ![11, 0] S1x128.size inb_S16x128_S1x128_11_0).toLoadRect (harg5.unread x4))⟩,
   ⟨Rect.unit (s := S2048x128) ![1280, 0] S128x128.size inb_S2048x128_S128x128_1280_0, giRow (View.readAt (Elt Ideal) arg5.view (Rect.unit (s := S16x128) ![10, 0] S1x128.size inb_S16x128_S1x128_10_0).toLoadRect (harg5.unread x4))⟩,
   ⟨Rect.unit (s := S2048x128) ![1152, 0] S128x128.size inb_S2048x128_S128x128_1152_0, giRow (View.readAt (Elt Ideal) arg5.view (Rect.unit (s := S16x128) ![9, 0] S1x128.size inb_S16x128_S1x128_9_0).toLoadRect (harg5.unread x4))⟩,
   ⟨Rect.unit (s := S2048x128) ![1024, 0] S128x128.size inb_S2048x128_S128x128_1024_0, giRow (View.readAt (Elt Ideal) arg5.view (Rect.unit (s := S16x128) ![8, 0] S1x128.size inb_S16x128_S1x128_8_0).toLoadRect (harg5.unread x4))⟩,
   ⟨Rect.unit (s := S2048x128) ![896, 0] S128x128.size inb_S2048x128_S128x128_896_0, giRow (View.readAt (Elt Ideal) arg5.view (Rect.unit (s := S16x128) ![7, 0] S1x128.size inb_S16x128_S1x128_7_0).toLoadRect (harg5.unread x4))⟩,
   ⟨Rect.unit (s := S2048x128) ![768, 0] S128x128.size inb_S2048x128_S128x128_768_0, giRow (View.readAt (Elt Ideal) arg5.view (Rect.unit (s := S16x128) ![6, 0] S1x128.size inb_S16x128_S1x128_6_0).toLoadRect (harg5.unread x4))⟩,
   ⟨Rect.unit (s := S2048x128) ![640, 0] S128x128.size inb_S2048x128_S128x128_640_0, giRow (View.readAt (Elt Ideal) arg5.view (Rect.unit (s := S16x128) ![5, 0] S1x128.size inb_S16x128_S1x128_5_0).toLoadRect (harg5.unread x4))⟩,
   ⟨Rect.unit (s := S2048x128) ![512, 0] S128x128.size inb_S2048x128_S128x128_512_0, giRow (View.readAt (Elt Ideal) arg5.view (Rect.unit (s := S16x128) ![4, 0] S1x128.size inb_S16x128_S1x128_4_0).toLoadRect (harg5.unread x4))⟩,
   ⟨Rect.unit (s := S2048x128) ![384, 0] S128x128.size inb_S2048x128_S128x128_384_0, giRow (View.readAt (Elt Ideal) arg5.view (Rect.unit (s := S16x128) ![3, 0] S1x128.size inb_S16x128_S1x128_3_0).toLoadRect (harg5.unread x4))⟩,
   ⟨Rect.unit (s := S2048x128) ![256, 0] S128x128.size inb_S2048x128_S128x128_256_0, giRow (View.readAt (Elt Ideal) arg5.view (Rect.unit (s := S16x128) ![2, 0] S1x128.size inb_S16x128_S1x128_2_0).toLoadRect (harg5.unread x4))⟩,
   ⟨Rect.unit (s := S2048x128) ![128, 0] S128x128.size inb_S2048x128_S128x128_128_0, giRow (View.readAt (Elt Ideal) arg5.view (Rect.unit (s := S16x128) ![1, 0] S1x128.size inb_S16x128_S1x128_1_0).toLoadRect (harg5.unread x4))⟩,
   ⟨Rect.unit (s := S2048x128) ![0, 0] S128x128.size inb_S2048x128_S128x128_0_0, giRow (View.readAt (Elt Ideal) arg5.view (Rect.unit (s := S16x128) ![0, 0] S1x128.size inb_S16x128_S1x128_0_0).toLoadRect (harg5.unread x4))⟩]

/-- The first point fills the index scratch. -/
theorem sout0_A_0_open (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec Ideal S2000x256 .bf16) (x1 : Vec Ideal S1024x256 .i8) (x2 : Vec Ideal S16x256 .bf16) (x3 : Vec Ideal S8x256 .i8) (x4 : Vec Ideal S16x128 .i32) :
    sout0_A_0 (F := Ideal) c i arg1 harg1 arg2 harg2 arg3 harg3 arg4 harg4 arg5 harg5 arg6 harg6 arg7 harg7 arg8 harg8 arg9 harg9 hc0 hc1 x0 x1 x2 x3 x4
      = VS0_0.read (Elt Ideal) (VS0_0.writes (Elt Ideal) VS0_0.junk (giPieces arg5 harg5 x4)) := by
  unfold sout0_A_0
  frame_open
  rfl

/-- The first point adds its product to zero. -/
theorem sout0_A_2_open (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec Ideal S2000x256 .bf16) (x1 : Vec Ideal S1024x256 .i8) (x2 : Vec Ideal S16x256 .bf16) (x3 : Vec Ideal S8x256 .i8) (x4 : Vec Ideal S16x128 .i32) :
    sout0_A_2 (F := Ideal) c i arg1 harg1 arg2 harg2 arg3 harg3 arg4 harg4 arg5 harg5 arg6 harg6 arg7 harg7 arg8 harg8 arg9 harg9 hc0 hc1 x0 x1 x2 x3 x4
      = VS0_2.read (Elt Ideal) (VS0_2.writes (Elt Ideal) VS0_2.junk [⟨(Rect.unit (s := S2000x2048) ![0, 0] S2000x2048.size inb_S2000x2048_S2000x2048_0_0), k0_pay1 (F := Ideal) (arg9.view.readCov [⟨(Rect.unit (s := S2000x2048) ![0, 0] S2000x2048.size inb_S2000x2048_S2000x2048_0_0), k0_pay3 (F := Ideal)⟩] (Rect.unit (s := S2000x2048) ![0, 0] S2000x2048.size inb_S2000x2048_S2000x2048_0_0).toLoadRect)
        (View.readAt (Elt Ideal) arg1.view (Rect.unit (s := S2000x256) ![0, 0] S2000x256.size inb_S2000x256_S2000x256_0_0).toLoadRect (harg1.unread x0))
        (arg8.view.readCov (wPieces Variants.none c none i arg1 harg1 arg2 harg2 arg3 harg3 arg4 harg4 arg5 harg5 arg6 harg6 arg7 harg7 arg8 harg8 arg9 harg9
          (View.readAt (Elt Ideal) arg3.view (Rect.unit (s := S16x256) ![0, 0] S16x128.size inb_S16x256_S16x128_0_0).toLoadRect (harg3.unread x2))
          (View.readAt (Elt Ideal) arg4.view (Rect.unit (s := S8x256) ![0, 0] S8x128.size inb_S8x256_S8x128_0_0).toLoadRect (harg4.unread x3))
          (View.readAt (Elt Ideal) arg3.view (Rect.unit (s := S16x256) ![0, 128] S16x128.size inb_S16x256_S16x128_0_128).toLoadRect (harg3.unread x2))
          (View.readAt (Elt Ideal) arg4.view (Rect.unit (s := S8x256) ![0, 128] S8x128.size inb_S8x256_S8x128_0_128).toLoadRect (harg4.unread x3))
          (harg2.unread x1) (arg7.view.writes (Elt Ideal) arg7.view.junk (giPieces arg5 harg5 x4))) (Rect.unit (s := S2048x256) ![0, 0] S2048x256.size inb_S2048x256_S2048x256_0_0).toLoadRect)⟩, ⟨(Rect.unit (s := S2000x2048) ![0, 0] S2000x2048.size inb_S2000x2048_S2000x2048_0_0), k0_pay3 (F := Ideal)⟩]) := by
  unfold sout0_A_2
  frame_open
  rfl

/-- A middle point adds its product to the accumulator. -/
theorem sout0_B_2_open (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec Ideal S2000x256 .bf16) (x1 : Vec Ideal S1024x256 .i8) (x2 : Vec Ideal S16x256 .bf16) (x3 : Vec Ideal S8x256 .i8) (x4 : Vec Ideal S16x128 .i32) (xs0 : Vec Ideal S2048x128 .i32) (xs2 : Vec Ideal S2000x2048 .f32) :
    sout0_B_2 (F := Ideal) c i arg1 harg1 arg2 harg2 arg3 harg3 arg4 harg4 arg5 harg5 arg6 harg6 arg7 harg7 arg8 harg8 arg9 harg9 hc0 hc1 x0 x1 x2 x3 x4 xs0 xs2
      = VS0_2.read (Elt Ideal) (VS0_2.writes (Elt Ideal) VS0_2.junk [⟨(Rect.unit (s := S2000x2048) ![0, 0] S2000x2048.size inb_S2000x2048_S2000x2048_0_0), k0_pay1 (F := Ideal) (View.readAt (Elt Ideal) arg9.view (Rect.unit (s := S2000x2048) ![0, 0] S2000x2048.size inb_S2000x2048_S2000x2048_0_0).toLoadRect (harg9.unread xs2))
        (View.readAt (Elt Ideal) arg1.view (Rect.unit (s := S2000x256) ![0, 0] S2000x256.size inb_S2000x256_S2000x256_0_0).toLoadRect (harg1.unread x0))
        (arg8.view.readCov (wPieces Variants.none c none i arg1 harg1 arg2 harg2 arg3 harg3 arg4 harg4 arg5 harg5 arg6 harg6 arg7 harg7 arg8 harg8 arg9 harg9
          (View.readAt (Elt Ideal) arg3.view (Rect.unit (s := S16x256) ![0, 0] S16x128.size inb_S16x256_S16x128_0_0).toLoadRect (harg3.unread x2))
          (View.readAt (Elt Ideal) arg4.view (Rect.unit (s := S8x256) ![0, 0] S8x128.size inb_S8x256_S8x128_0_0).toLoadRect (harg4.unread x3))
          (View.readAt (Elt Ideal) arg3.view (Rect.unit (s := S16x256) ![0, 128] S16x128.size inb_S16x256_S16x128_0_128).toLoadRect (harg3.unread x2))
          (View.readAt (Elt Ideal) arg4.view (Rect.unit (s := S8x256) ![0, 128] S8x128.size inb_S8x256_S8x128_0_128).toLoadRect (harg4.unread x3))
          (harg2.unread x1) (harg7.unread xs0)) (Rect.unit (s := S2048x256) ![0, 0] S2048x256.size inb_S2048x256_S2048x256_0_0).toLoadRect)⟩]) := by
  unfold sout0_B_2
  frame_open
  rfl

/-- So does the last point. -/
theorem sout0_C_2_open (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec Ideal S2000x256 .bf16) (x1 : Vec Ideal S1024x256 .i8) (x2 : Vec Ideal S16x256 .bf16) (x3 : Vec Ideal S8x256 .i8) (x4 : Vec Ideal S16x128 .i32) (xs0 : Vec Ideal S2048x128 .i32) (xs2 : Vec Ideal S2000x2048 .f32) :
    sout0_C_2 (F := Ideal) c i arg1 harg1 arg2 harg2 arg3 harg3 arg4 harg4 arg5 harg5 arg6 harg6 arg7 harg7 arg8 harg8 arg9 harg9 hc0 hc1 x0 x1 x2 x3 x4 xs0 xs2
      = VS0_2.read (Elt Ideal) (VS0_2.writes (Elt Ideal) VS0_2.junk [⟨(Rect.unit (s := S2000x2048) ![0, 0] S2000x2048.size inb_S2000x2048_S2000x2048_0_0), k0_pay1 (F := Ideal) (View.readAt (Elt Ideal) arg9.view (Rect.unit (s := S2000x2048) ![0, 0] S2000x2048.size inb_S2000x2048_S2000x2048_0_0).toLoadRect (harg9.unread xs2))
        (View.readAt (Elt Ideal) arg1.view (Rect.unit (s := S2000x256) ![0, 0] S2000x256.size inb_S2000x256_S2000x256_0_0).toLoadRect (harg1.unread x0))
        (arg8.view.readCov (wPieces Variants.none c none i arg1 harg1 arg2 harg2 arg3 harg3 arg4 harg4 arg5 harg5 arg6 harg6 arg7 harg7 arg8 harg8 arg9 harg9
          (View.readAt (Elt Ideal) arg3.view (Rect.unit (s := S16x256) ![0, 0] S16x128.size inb_S16x256_S16x128_0_0).toLoadRect (harg3.unread x2))
          (View.readAt (Elt Ideal) arg4.view (Rect.unit (s := S8x256) ![0, 0] S8x128.size inb_S8x256_S8x128_0_0).toLoadRect (harg4.unread x3))
          (View.readAt (Elt Ideal) arg3.view (Rect.unit (s := S16x256) ![0, 128] S16x128.size inb_S16x256_S16x128_0_128).toLoadRect (harg3.unread x2))
          (View.readAt (Elt Ideal) arg4.view (Rect.unit (s := S8x256) ![0, 128] S8x128.size inb_S8x256_S8x128_0_128).toLoadRect (harg4.unread x3))
          (harg2.unread x1) (harg7.unread xs0)) (Rect.unit (s := S2048x256) ![0, 0] S2048x256.size inb_S2048x256_S2048x256_0_0).toLoadRect)⟩]) := by
  unfold sout0_C_2
  frame_open
  rfl

/-- The last point rounds the accumulator into the output. -/
theorem out0_C_5_open (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec Ideal S2000x256 .bf16) (x1 : Vec Ideal S1024x256 .i8) (x2 : Vec Ideal S16x256 .bf16) (x3 : Vec Ideal S8x256 .i8) (x4 : Vec Ideal S16x128 .i32) (xs0 : Vec Ideal S2048x128 .i32) (xs2 : Vec Ideal S2000x2048 .f32) :
    out0_C_5 (F := Ideal) c i arg1 harg1 arg2 harg2 arg3 harg3 arg4 harg4 arg5 harg5 arg6 harg6 arg7 harg7 arg8 harg8 arg9 harg9 hc0 hc1 x0 x1 x2 x3 x4 xs0 xs2
      = VO0_5.read (Elt Ideal) (VO0_5.writes (Elt Ideal) VO0_5.junk [⟨(Rect.unit (s := S2000x2048) ![0, 0] S2000x2048.size inb_S2000x2048_S2000x2048_0_0), k0_pay2 (F := Ideal) (arg9.view.readCov [⟨(Rect.unit (s := S2000x2048) ![0, 0] S2000x2048.size inb_S2000x2048_S2000x2048_0_0), k0_pay1 (F := Ideal) (View.readAt (Elt Ideal) arg9.view (Rect.unit (s := S2000x2048) ![0, 0] S2000x2048.size inb_S2000x2048_S2000x2048_0_0).toLoadRect (harg9.unread xs2))
        (View.readAt (Elt Ideal) arg1.view (Rect.unit (s := S2000x256) ![0, 0] S2000x256.size inb_S2000x256_S2000x256_0_0).toLoadRect (harg1.unread x0))
        (arg8.view.readCov (wPieces Variants.none c none i arg1 harg1 arg2 harg2 arg3 harg3 arg4 harg4 arg5 harg5 arg6 harg6 arg7 harg7 arg8 harg8 arg9 harg9
          (View.readAt (Elt Ideal) arg3.view (Rect.unit (s := S16x256) ![0, 0] S16x128.size inb_S16x256_S16x128_0_0).toLoadRect (harg3.unread x2))
          (View.readAt (Elt Ideal) arg4.view (Rect.unit (s := S8x256) ![0, 0] S8x128.size inb_S8x256_S8x128_0_0).toLoadRect (harg4.unread x3))
          (View.readAt (Elt Ideal) arg3.view (Rect.unit (s := S16x256) ![0, 128] S16x128.size inb_S16x256_S16x128_0_128).toLoadRect (harg3.unread x2))
          (View.readAt (Elt Ideal) arg4.view (Rect.unit (s := S8x256) ![0, 128] S8x128.size inb_S8x256_S8x128_0_128).toLoadRect (harg4.unread x3))
          (harg2.unread x1) (harg7.unread xs0)) (Rect.unit (s := S2048x256) ![0, 0] S2048x256.size inb_S2048x256_S2048x256_0_0).toLoadRect)⟩] (Rect.unit (s := S2000x2048) ![0, 0] S2000x2048.size inb_S2000x2048_S2000x2048_0_0).toLoadRect)⟩]) := by
  unfold out0_C_5
  frame_open
  rfl

end Cert.KernelIdeal.Value

end
-- ==== Proof.Value.Steps.lean ====
/- The values each case of the body leaves in the carried scratch and in the output. -/
module

public import proofs.«01_k».proof.Proof.Value.Opened

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem

/-- The index scratch: the group index of row `n`, in every lane. -/
def giOf (x4 : Vec Ideal S16x128 .i32) : Vec Ideal S2048x128 .i32 :=
  fun y => e2 (α := BitVec 32) x4 ((y 0).val / 128) ((y 0).val % 128)

/-- A row of group indices spread over lanes, at an index. -/
theorem giRow_apply (v : Vec Ideal S1x128 .i32) (x : S128x128.Idx) : giRow v x = v (ix2 0 (x 0)) := by
  obtain ⟨r, l, rfl⟩ : ∃ (r : Fin 128) (l : Fin 128), x = ix2 r l := ⟨x 0, x 1, by funext a; fin_cases a <;> rfl⟩
  pointwise [giRow]

/-- One store into the index scratch agrees with it. -/
theorem gi_piece (arg5 : Memref sig .tc .vmem S16x128 .i32) (harg5 : arg5.IsWhole) (x4 : Vec Ideal S16x128 .i32) (r : Nat) (hr : r < 16)
    (offw : Fin 2 → Nat) (hw : offw = ![128 * r, 0]) (inbw : ∀ a, offw a + S128x128.size a ≤ S2048x128.size a)
    (offr : Fin 2 → Nat) (ho : offr = ![r, 0]) (inbr : ∀ a, offr a + S1x128.size a ≤ S16x128.size a) (x : S128x128.Idx) :
    giRow (View.readAt (Elt Ideal) arg5.view (Rect.unit (s := S16x128) offr S1x128.size inbr).toLoadRect (harg5.unread x4)) x
      = giOf x4 ((Rect.unit (s := S2048x128) offw S128x128.size inbw).emb x) := by
  subst hw ho
  have hx : (x 0).val < 128 := (x 0).isLt
  rw [giRow_apply, harg5.readAt_unread]
  have hn : (((Rect.unit (s := S2048x128) ![128 * r, 0] S128x128.size inbw).emb x) 0).val = 128 * r + (x 0).val := by
    show 128 * r + 1 * (x 0).val = _
    omega
  unfold giOf
  rw [hn]
  refine e2_of (α := BitVec 32) x4 _ _ _ ?_ ?_
  · show r + 1 * 0 = (128 * r + (x 0).val) / 128
    omega
  · show 0 + 1 * (x 0).val = (128 * r + (x 0).val) % 128
    omega

/-- The sixteen stores cover the index scratch. -/
theorem gi_cover (arg5 : Memref sig .tc .vmem S16x128 .i32) (harg5 : arg5.IsWhole) (x4 : Vec Ideal S16x128 .i32) (y : S2048x128.Idx) :
    ∃ p ∈ giPieces arg5 harg5 x4, y ∈ p.1.set :=
  View.cover_of_tiledL (giPieces arg5 harg5 x4) S128x128.size (by sl_kernel_rfl) y

/-- What they leave is the index scratch. -/
theorem gi_canon (arg5 : Memref sig .tc .vmem S16x128 .i32) (harg5 : arg5.IsWhole) (x4 : Vec Ideal S16x128 .i32) :
    View.canon (giPieces arg5 harg5 x4) = giOf x4 := by
  funext y
  refine View.canon_apply_of_pieces (giOf x4) _ ?_ y (gi_cover arg5 harg5 x4 y)
  intro p hp
  simp only [giPieces, List.mem_cons, List.not_mem_nil, or_false] at hp
  obtain rfl | rfl | rfl | rfl | rfl | rfl | rfl | rfl | rfl | rfl | rfl | rfl | rfl | rfl | rfl | rfl := hp
  · exact fun x => gi_piece arg5 harg5 x4 15 (by decide) _ rfl inb_S2048x128_S128x128_1920_0 _ rfl inb_S16x128_S1x128_15_0 x
  · exact fun x => gi_piece arg5 harg5 x4 14 (by decide) _ rfl inb_S2048x128_S128x128_1792_0 _ rfl inb_S16x128_S1x128_14_0 x
  · exact fun x => gi_piece arg5 harg5 x4 13 (by decide) _ rfl inb_S2048x128_S128x128_1664_0 _ rfl inb_S16x128_S1x128_13_0 x
  · exact fun x => gi_piece arg5 harg5 x4 12 (by decide) _ rfl inb_S2048x128_S128x128_1536_0 _ rfl inb_S16x128_S1x128_12_0 x
  · exact fun x => gi_piece arg5 harg5 x4 11 (by decide) _ rfl inb_S2048x128_S128x128_1408_0 _ rfl inb_S16x128_S1x128_11_0 x
  · exact fun x => gi_piece arg5 harg5 x4 10 (by decide) _ rfl inb_S2048x128_S128x128_1280_0 _ rfl inb_S16x128_S1x128_10_0 x
  · exact fun x => gi_piece arg5 harg5 x4 9 (by decide) _ rfl inb_S2048x128_S128x128_1152_0 _ rfl inb_S16x128_S1x128_9_0 x
  · exact fun x => gi_piece arg5 harg5 x4 8 (by decide) _ rfl inb_S2048x128_S128x128_1024_0 _ rfl inb_S16x128_S1x128_8_0 x
  · exact fun x => gi_piece arg5 harg5 x4 7 (by decide) _ rfl inb_S2048x128_S128x128_896_0 _ rfl inb_S16x128_S1x128_7_0 x
  · exact fun x => gi_piece arg5 harg5 x4 6 (by decide) _ rfl inb_S2048x128_S128x128_768_0 _ rfl inb_S16x128_S1x128_6_0 x
  · exact fun x => gi_piece arg5 harg5 x4 5 (by decide) _ rfl inb_S2048x128_S128x128_640_0 _ rfl inb_S16x128_S1x128_5_0 x
  · exact fun x => gi_piece arg5 harg5 x4 4 (by decide) _ rfl inb_S2048x128_S128x128_512_0 _ rfl inb_S16x128_S1x128_4_0 x
  · exact fun x => gi_piece arg5 harg5 x4 3 (by decide) _ rfl inb_S2048x128_S128x128_384_0 _ rfl inb_S16x128_S1x128_3_0 x
  · exact fun x => gi_piece arg5 harg5 x4 2 (by decide) _ rfl inb_S2048x128_S128x128_256_0 _ rfl inb_S16x128_S1x128_2_0 x
  · exact fun x => gi_piece arg5 harg5 x4 1 (by decide) _ rfl inb_S2048x128_S128x128_128_0 _ rfl inb_S16x128_S1x128_1_0 x
  · exact fun x => gi_piece arg5 harg5 x4 0 (by decide) _ rfl inb_S2048x128_S128x128_0_0 _ rfl inb_S16x128_S1x128_0_0 x

/-- The scratch they are stored into is held at it. -/
theorem gi_unread (arg5 : Memref sig .tc .vmem S16x128 .i32) (harg5 : arg5.IsWhole) (x4 : Vec Ideal S16x128 .i32)
    (arg7 : Memref sig .tc .vmem S2048x128 .i32) (harg7 : arg7.IsWhole) :
    arg7.view.writes (Elt Ideal) arg7.view.junk (giPieces arg5 harg5 x4) = harg7.unread (giOf x4) := by
  rw [← gi_canon arg5 harg5 x4, ← View.read_writes_junk_eq_canon arg7.view, harg7.unread_read]

/-- The accumulator's step at an index: the product of a row of `dy` and a row of the weights, added. -/
theorem pay1_apply (v27 : Vec Ideal S2000x2048 .f32) (v28 : Vec Ideal S2000x256 .bf16) (v30 : Vec Ideal S2048x256 .bf16) (r : Fin 2000) (n : Fin 2048) :
    k0_pay1 (F := Ideal) v27 v28 v30 (ix2 r n) = (v27 (ix2 r n) + ∑ k : Fin 256, v28 (ix2 r k) * v30 (ix2 n k) : EReal) := by
  pointwise [k0_pay1]

/-- The zero the accumulator starts from. -/
theorem pay3_apply (y : S2000x2048.Idx) : k0_pay3 (F := Ideal) y = (0 : EReal) := by
  pointwise [k0_pay3]

end Cert.KernelIdeal.Value

end
-- ==== Proof.Value.Cases.lean ====
/- The value of the accumulator and of the output after each case of the body. -/
module

public import proofs.«01_k».proof.Proof.Value.Steps

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem

/-- What one grid point adds to the accumulator at output row `r`, weight row `n`. -/
def term (x0 : Vec Ideal S2000x256 .bf16) (x1 : Vec Ideal S1024x256 .i8) (x2 : Vec Ideal S16x256 .bf16) (x3 : Vec Ideal S8x256 .i8)
    (gi : Vec Ideal S2048x128 .i32) (y : S2000x2048.Idx) : EReal :=
  ∑ k : Fin 256, (x0 (ix2 (y 0) k) : EReal) * wgt x1 x2 x3 gi (y 1).val k.val

/-- The rounding of the last point is the identity over the reals. -/
theorem pay2_eq (v : Vec Ideal S2000x2048 .f32) (y : S2000x2048.Idx) : k0_pay2 (F := Ideal) v y = v y := by
  pointwise [k0_pay2]

/-- The accumulator's step: the product of the point's blocks, added. -/
theorem step_apply (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole)
    (x0 : Vec Ideal S2000x256 .bf16) (x1 : Vec Ideal S1024x256 .i8) (x2 : Vec Ideal S16x256 .bf16) (x3 : Vec Ideal S8x256 .i8) (gi : Vec Ideal S2048x128 .i32)
    (hr : ∀ n l, (e2 (α := BitVec 32) gi n l).toNat < 16) (base : Vec Ideal S2000x2048 .f32) (y : S2000x2048.Idx) :
    k0_pay1 (F := Ideal) base
        (View.readAt (Elt Ideal) arg1.view (Rect.unit (s := S2000x256) ![0, 0] S2000x256.size inb_S2000x256_S2000x256_0_0).toLoadRect (harg1.unread x0))
        (arg8.view.readCov (wPieces Variants.none c none i arg1 harg1 arg2 harg2 arg3 harg3 arg4 harg4 arg5 harg5 arg6 harg6 arg7 harg7 arg8 harg8 arg9 harg9
          (View.readAt (Elt Ideal) arg3.view (Rect.unit (s := S16x256) ![0, 0] S16x128.size inb_S16x256_S16x128_0_0).toLoadRect (harg3.unread x2))
          (View.readAt (Elt Ideal) arg4.view (Rect.unit (s := S8x256) ![0, 0] S8x128.size inb_S8x256_S8x128_0_0).toLoadRect (harg4.unread x3))
          (View.readAt (Elt Ideal) arg3.view (Rect.unit (s := S16x256) ![0, 128] S16x128.size inb_S16x256_S16x128_0_128).toLoadRect (harg3.unread x2))
          (View.readAt (Elt Ideal) arg4.view (Rect.unit (s := S8x256) ![0, 128] S8x128.size inb_S8x256_S8x128_0_128).toLoadRect (harg4.unread x3))
          (harg2.unread x1) (harg7.unread gi)) (Rect.unit (s := S2048x256) ![0, 0] S2048x256.size inb_S2048x256_S2048x256_0_0).toLoadRect) y
      = (base y + term x0 x1 x2 x3 gi y : EReal) := by
  obtain ⟨r, n, rfl⟩ : ∃ (r : Fin 2000) (n : Fin 2048), y = ix2 r n := ⟨y 0, y 1, by funext a; fin_cases a <;> rfl⟩
  rw [pay1_apply]
  refine congrArg (fun t : EReal => (base (ix2 r n) + t : EReal)) (Finset.sum_congr rfl fun k _ => ?_)
  refine congrArg₂ (fun a b : EReal => a * b) ?_ ?_
  · rw [harg1.readAt_unread]
    refine congrArg x0 ?_
    funext a
    fin_cases a
    · exact Fin.ext (by show 0 + 1 * r.val = r.val; omega)
    · exact Fin.ext (by show 0 + 1 * k.val = k.val; omega)
  · refine (w_value Variants.none c none i arg1 harg1 arg2 harg2 arg3 harg3 arg4 harg4 arg5 harg5 arg6 harg6 arg7 harg7 arg8 harg8 arg9 harg9 x1 x2 x3 gi hr _ ?_ _ ?_ _ ?_ _ ?_ (Rect.unit (s := S2048x256) ![0, 0] S2048x256.size inb_S2048x256_S2048x256_0_0).toLoadRect (ix2 n k)).trans ?_
    · intro g l
      rw [harg3.readAt_unread]
      exact e2_of (α := EReal) x2 _ _ _ (by show 0 + 1 * g.val = _; omega) (by show 0 + 1 * l.val = _; omega)
    · intro g l
      rw [harg4.readAt_unread]
      exact e2_of (α := BitVec 8) x3 _ _ _ (by show 0 + 1 * g.val = _; omega) (by show 0 + 1 * l.val = _; omega)
    · intro g l
      rw [harg3.readAt_unread]
      exact e2_of (α := EReal) x2 _ _ _ (by show 0 + 1 * g.val = _; omega) (by show 128 + 1 * l.val = _; omega)
    · intro g l
      rw [harg4.readAt_unread]
      exact e2_of (α := BitVec 8) x3 _ _ _ (by show 0 + 1 * g.val = _; omega) (by show 128 + 1 * l.val = _; omega)
    · show wgt x1 x2 x3 gi (0 + 1 * n.val) (0 + 1 * k.val) = wgt x1 x2 x3 gi n.val k.val
      rw [Nat.zero_add, Nat.one_mul, Nat.zero_add, Nat.one_mul]

/-- The first point leaves the group indices in the index scratch. -/
theorem sout0_A_0_eq (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec Ideal S2000x256 .bf16) (x1 : Vec Ideal S1024x256 .i8) (x2 : Vec Ideal S16x256 .bf16) (x3 : Vec Ideal S8x256 .i8) (x4 : Vec Ideal S16x128 .i32) :
    sout0_A_0 (F := Ideal) c i arg1 harg1 arg2 harg2 arg3 harg3 arg4 harg4 arg5 harg5 arg6 harg6 arg7 harg7 arg8 harg8 arg9 harg9 hc0 hc1 x0 x1 x2 x3 x4 = giOf x4 := by
  rw [sout0_A_0_open, View.read_writes_junk_eq_canon, gi_canon]

/-- The first point leaves its own term in the accumulator. -/
theorem sout0_A_2_apply (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : cond0_0 i) (hc1 : ¬cond0_1 i)
    (x0 : Vec Ideal S2000x256 .bf16) (x1 : Vec Ideal S1024x256 .i8) (x2 : Vec Ideal S16x256 .bf16) (x3 : Vec Ideal S8x256 .i8) (x4 : Vec Ideal S16x128 .i32)
    (hr : ∀ n l, (e2 (α := BitVec 32) (giOf x4) n l).toNat < 16) (y : S2000x2048.Idx) :
    sout0_A_2 (F := Ideal) c i arg1 harg1 arg2 harg2 arg3 harg3 arg4 harg4 arg5 harg5 arg6 harg6 arg7 harg7 arg8 harg8 arg9 harg9 hc0 hc1 x0 x1 x2 x3 x4 y = (0 + term x0 x1 x2 x3 (giOf x4) y : EReal) := by
  rw [sout0_A_2_open, View.read_writes_junk_eq_canon, View.canon_cons_unit_lit _ _ _ (by decide), gi_unread arg5 harg5 x4 arg7 harg7,
    View.readCov_cons_toLoadRect, step_apply c i arg1 harg1 arg2 harg2 arg3 harg3 arg4 harg4 arg5 harg5 arg6 harg6 arg7 harg7 arg8 harg8 arg9 harg9 x0 x1 x2 x3 (giOf x4) hr, pay3_apply]

/-- Reading the accumulator back whole gives what it holds. -/
theorem acc_read (arg9 : Memref sig .tc .vmem S2000x2048 .f32) (harg9 : arg9.IsWhole) (xs2 : Vec Ideal S2000x2048 .f32) (y : S2000x2048.Idx) :
    View.readAt (Elt Ideal) arg9.view (Rect.unit (s := S2000x2048) ![0, 0] S2000x2048.size inb_S2000x2048_S2000x2048_0_0).toLoadRect (harg9.unread xs2) y = xs2 y := by
  rw [harg9.readAt_unread]
  refine congrArg xs2 ?_
  funext a
  fin_cases a
  · exact Fin.ext (by show 0 + 1 * (y 0).val = (y 0).val; omega)
  · exact Fin.ext (by show 0 + 1 * (y 1).val = (y 1).val; omega)

/-- A middle point adds its term. -/
theorem sout0_B_2_apply (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : ¬cond0_1 i)
    (x0 : Vec Ideal S2000x256 .bf16) (x1 : Vec Ideal S1024x256 .i8) (x2 : Vec Ideal S16x256 .bf16) (x3 : Vec Ideal S8x256 .i8) (x4 : Vec Ideal S16x128 .i32) (xs0 : Vec Ideal S2048x128 .i32) (xs2 : Vec Ideal S2000x2048 .f32)
    (hr : ∀ n l, (e2 (α := BitVec 32) xs0 n l).toNat < 16) (y : S2000x2048.Idx) :
    sout0_B_2 (F := Ideal) c i arg1 harg1 arg2 harg2 arg3 harg3 arg4 harg4 arg5 harg5 arg6 harg6 arg7 harg7 arg8 harg8 arg9 harg9 hc0 hc1 x0 x1 x2 x3 x4 xs0 xs2 y = (xs2 y + term x0 x1 x2 x3 xs0 y : EReal) := by
  rw [sout0_B_2_open, View.read_writes_junk_eq_canon, View.canon_cons_unit_lit _ _ _ (by decide),
    step_apply c i arg1 harg1 arg2 harg2 arg3 harg3 arg4 harg4 arg5 harg5 arg6 harg6 arg7 harg7 arg8 harg8 arg9 harg9 x0 x1 x2 x3 xs0 hr, acc_read]

/-- So does the last point. -/
theorem sout0_C_2_apply (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec Ideal S2000x256 .bf16) (x1 : Vec Ideal S1024x256 .i8) (x2 : Vec Ideal S16x256 .bf16) (x3 : Vec Ideal S8x256 .i8) (x4 : Vec Ideal S16x128 .i32) (xs0 : Vec Ideal S2048x128 .i32) (xs2 : Vec Ideal S2000x2048 .f32)
    (hr : ∀ n l, (e2 (α := BitVec 32) xs0 n l).toNat < 16) (y : S2000x2048.Idx) :
    sout0_C_2 (F := Ideal) c i arg1 harg1 arg2 harg2 arg3 harg3 arg4 harg4 arg5 harg5 arg6 harg6 arg7 harg7 arg8 harg8 arg9 harg9 hc0 hc1 x0 x1 x2 x3 x4 xs0 xs2 y = (xs2 y + term x0 x1 x2 x3 xs0 y : EReal) := by
  rw [sout0_C_2_open, View.read_writes_junk_eq_canon, View.canon_cons_unit_lit _ _ _ (by decide),
    step_apply c i arg1 harg1 arg2 harg2 arg3 harg3 arg4 harg4 arg5 harg5 arg6 harg6 arg7 harg7 arg8 harg8 arg9 harg9 x0 x1 x2 x3 xs0 hr, acc_read]

/-- The last point leaves the finished accumulator in the output. -/
theorem out0_C_5_apply (c : Dev nD) (i : grid0.Coords) (arg1 : Memref sig .tc .vmem S2000x256 .bf16) (harg1 : arg1.IsWhole) (arg2 : Memref sig .tc .vmem S1024x256 .i8) (harg2 : arg2.IsWhole) (arg3 : Memref sig .tc .vmem S16x256 .bf16) (harg3 : arg3.IsWhole) (arg4 : Memref sig .tc .vmem S8x256 .i8) (harg4 : arg4.IsWhole) (arg5 : Memref sig .tc .vmem S16x128 .i32) (harg5 : arg5.IsWhole) (arg6 : Memref sig .tc .vmem S2000x2048 .bf16) (harg6 : arg6.IsWhole) (arg7 : Memref sig .tc .vmem S2048x128 .i32) (harg7 : arg7.IsWhole) (arg8 : Memref sig .tc .vmem S2048x256 .bf16) (harg8 : arg8.IsWhole) (arg9 : Memref sig .tc .vmem S2000x2048 .f32) (harg9 : arg9.IsWhole) (hc0 : ¬cond0_0 i) (hc1 : cond0_1 i)
    (x0 : Vec Ideal S2000x256 .bf16) (x1 : Vec Ideal S1024x256 .i8) (x2 : Vec Ideal S16x256 .bf16) (x3 : Vec Ideal S8x256 .i8) (x4 : Vec Ideal S16x128 .i32) (xs0 : Vec Ideal S2048x128 .i32) (xs2 : Vec Ideal S2000x2048 .f32)
    (hr : ∀ n l, (e2 (α := BitVec 32) xs0 n l).toNat < 16) (y : S2000x2048.Idx) :
    out0_C_5 (F := Ideal) c i arg1 harg1 arg2 harg2 arg3 harg3 arg4 harg4 arg5 harg5 arg6 harg6 arg7 harg7 arg8 harg8 arg9 harg9 hc0 hc1 x0 x1 x2 x3 x4 xs0 xs2 y = (xs2 y + term x0 x1 x2 x3 xs0 y : EReal) := by
  rw [out0_C_5_open, View.read_writes_junk_eq_canon, View.canon_cons_unit_lit _ _ _ (by decide), pay2_eq, View.readCov_cons_toLoadRect,
    step_apply c i arg1 harg1 arg2 harg2 arg3 harg3 arg4 harg4 arg5 harg5 arg6 harg6 arg7 harg7 arg8 harg8 arg9 harg9 x0 x1 x2 x3 xs0 hr, acc_read]

end Cert.KernelIdeal.Value

end
-- ==== Proof.Value.Blocks.lean ====
/- What each input block of a grid point is, in terms of the argument arrays. -/
module

public import proofs.«01_k».proof.Proof.Value.Cases
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ)

/-- The place of the first window's block. -/
theorem idx0 : ∀ t : Fin cfg0.N, win0_0.index t = ![0, t.val] := by decide +kernel
/-- The place of the second window's block. -/
theorem idx1 : ∀ t : Fin cfg0.N, win0_1.index t = ![0, t.val] := by decide +kernel
/-- The place of the third window's block. -/
theorem idx2 : ∀ t : Fin cfg0.N, win0_2.index t = ![0, t.val] := by decide +kernel
/-- The place of the fourth window's block. -/
theorem idx3 : ∀ t : Fin cfg0.N, win0_3.index t = ![0, t.val] := by decide +kernel
/-- The place of the fifth window's block. -/
theorem idx4 : ∀ t : Fin cfg0.N, win0_4.index t = ![0, 0] := by decide +kernel

/-- A grid point is below thirty-two. -/
theorem lt32 (t : Fin cfg0.N) : t.val < 32 := lt_of_lt_of_eq t.isLt (show cfg0.N = 32 from N_0)

/-- Dropping the unit axis of `dy`, at an index. -/
theorem row_apply (X : Vec Ideal S2000x1x8192 .bf16) (b : Fin 2000) (k : Fin 8192) :
    shapeCast S2000x8192 X shapeCasts_S2000x1x8192_S2000x8192 (ix2 b k) = X (ix3 b (0 : Fin 1) k) := by
  pointwise

/-- `dy` as the region finds it: the same rows, without the unit axis. -/
theorem V_v0 (c : Dev nD) : V m c main_v0 = shapeCast S2000x8192 (m ((c.tc : Thread nD τ).loc main_arg0)) shapeCasts_S2000x1x8192_S2000x8192 := by
  show StableHlo.after hostOps0 (fun b => m (c, b)) (Proc.devRef .tc main_v0) = _
  after_results
  rfl

/-- The group indices as the region finds them: in rows of 128. -/
theorem V_v1 (c : Dev nD) : V m c main_v1 = shapeCast S16x128 (m ((c.tc : Thread nD τ).loc main_arg4)) shapeCasts_S2048_S16x128 := by
  show StableHlo.after hostOps0 (fun b => m (c, b)) (Proc.devRef .tc main_v1) = _
  after_results
  rfl

/-- The block of `dy`. -/
theorem blk0 (c : Dev nD) (t : Fin cfg0.N) (b : Fin 2000) (k : Fin 256) :
    iblk m c 0 t (ix2 b k) = m ((c.tc : Thread nD τ).loc main_arg0) (ix3 b (0 : Fin 1) (⟨256 * t.val + k.val, by have := lt32 t; have := k.isLt; omega⟩ : Fin 8192)) := by
  have := lt32 t
  have e : ((cfg0.win 0).blk t).view.emb (ix2 b k) = ix2 (n0 := 2000) (n1 := 8192) b (⟨256 * t.val + k.val, by have := k.isLt; omega⟩ : Fin 8192) := by
    blk_ext [idx0 t]
  show V m c main_v0 (((cfg0.win 0).blk t).view.emb (ix2 b k)) = _
  refine (congrFun (V_v0 m c) _).trans ((congrArg (shapeCast S2000x8192 (m ((c.tc : Thread nD τ).loc main_arg0)) shapeCasts_S2000x1x8192_S2000x8192) e).trans ?_)
  exact row_apply _ _ _

/-- The block of packed codes. -/
theorem blk1 (c : Dev nD) (t : Fin cfg0.N) (j : Fin 1024) (k : Fin 256) :
    iblk m c 1 t (ix2 j k) = m ((c.tc : Thread nD τ).loc main_arg1) (ix2 j (⟨256 * t.val + k.val, by have := lt32 t; have := k.isLt; omega⟩ : Fin 8192)) := by
  have := lt32 t
  blk_ext! [iblk, V, idx1 t]

/-- The block of scales. -/
theorem blk2 (c : Dev nD) (t : Fin cfg0.N) (j : Fin 16) (k : Fin 256) :
    iblk m c 2 t (ix2 j k) = m ((c.tc : Thread nD τ).loc main_arg2) (ix2 j (⟨256 * t.val + k.val, by have := lt32 t; have := k.isLt; omega⟩ : Fin 8192)) := by
  have := lt32 t
  blk_ext! [iblk, V, idx2 t]

/-- The block of packed zeros. -/
theorem blk3 (c : Dev nD) (t : Fin cfg0.N) (j : Fin 8) (k : Fin 256) :
    iblk m c 3 t (ix2 j k) = m ((c.tc : Thread nD τ).loc main_arg3) (ix2 j (⟨256 * t.val + k.val, by have := lt32 t; have := k.isLt; omega⟩ : Fin 8192)) := by
  have := lt32 t
  blk_ext! [iblk, V, idx3 t]

/-- The block of group indices. -/
theorem blk4 (c : Dev nD) (t : Fin cfg0.N) (g : Fin 16) (l : Fin 128) :
    iblk m c 4 t (ix2 g l) = m ((c.tc : Thread nD τ).loc main_arg4) (ix1 (⟨128 * g.val + l.val, by have := g.isLt; have := l.isLt; omega⟩ : Fin 2048)) := by
  have := lt32 t
  have e : ((cfg0.win 4).blk t).view.emb (ix2 g l) = ix2 (n0 := 16) (n1 := 128) g l := by
    blk_ext [idx4 t]
  show V m c main_v1 (((cfg0.win 4).blk t).view.emb (ix2 g l)) = _
  refine (congrFun (V_v1 m c) _).trans ((congrArg (shapeCast S16x128 (m ((c.tc : Thread nD τ).loc main_arg4)) shapeCasts_S2048_S16x128) e).trans ?_)
  pointwise
  refine congrArg _ (congrArg ix1 (Fin.ext ?_))
  show g.val * 128 + l.val = 128 * g.val + l.val
  omega

end Cert.KernelIdeal.Value

end
-- ==== Proof.Value.Grid.lean ====
/- The accumulator over the grid: the sum of every point's term. -/
module

public import proofs.«01_k».proof.Proof.Value.Blocks

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ)

/-- The group index of a weight row, read off the argument. -/
def gOf (c : Dev nD) (n : Nat) : BitVec 32 := m ((c.tc : Thread nD τ).loc main_arg4) (ix1 (Fin.ofNat 2048 n))

/-- The index scratch as a function of the argument. -/
def giAll (c : Dev nD) : Vec Ideal S2048x128 .i32 := fun y => gOf m c (y 0).val

/-- The block of group indices spread over the scratch is the same at every point. -/
theorem giOf_blk (c : Dev nD) (t : Fin cfg0.N) : giOf (iblk m c 4 t) = giAll m c := by
  funext y
  have hy : (y 0).val < 2048 := (y 0).isLt
  unfold giOf giAll gOf e2
  rw [blk4]
  refine congrArg _ (congrArg ix1 (Fin.ext ?_))
  show 128 * ((y 0).val / 128 % 16) + (y 0).val % 128 % 128 = (y 0).val % 2048
  omega

/-- The first point's index scratch. -/
theorem gi_first (c : Dev nD) (t : Fin cfg0.N) (h : t.val % 32 = 0) : (outsAt0 m c t.val t.isLt).2.1 = giAll m c := by
  have h1 : ¬t.val % 32 = 31 := by omega
  exact (congrArg (fun p => p.2.1) (outsAt0_A m c t h h1)).trans
    ((sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h) (fun e => h1 ((hcond0_1 t).mp e)) (iblk m c 0 t) (iblk m c 1 t) (iblk m c 2 t) (iblk m c 3 t) (iblk m c 4 t)).trans (giOf_blk m c t))

/-- Every later point keeps it. -/
theorem gi_step (c : Dev nD) (t : Fin cfg0.N) (h : ¬t.val % 32 = 0) :
    (outsAt0 m c t.val t.isLt).2.1 = (outsAt0 m c (t.val - 1) (Nat.lt_of_le_of_lt (Nat.sub_le _ _) t.isLt)).2.1 := by
  by_cases h1 : t.val % 32 = 31
  · refine (congrArg (fun p => p.2.1) (outsAt0_C m c t h h1)).trans ?_
    dsimp only
    unfold sout0_C_0
    exact Eq.refl _
  · refine (congrArg (fun p => p.2.1) (outsAt0_B m c t h h1)).trans ?_
    dsimp only
    unfold sout0_B_0
    exact Eq.refl _

/-- Every point leaves the index scratch at the group indices. -/
theorem gi_const (c : Dev nD) : ∀ (n : Nat) (h : n < cfg0.N), (outsAt0 m c n h).2.1 = giAll m c := by
  intro n
  induction n with
  | zero => exact fun h => gi_first m c ⟨0, h⟩ rfl
  | succ n ih =>
    intro h
    have hN : n + 1 < 32 := lt32 ⟨n + 1, h⟩
    exact (gi_step m c ⟨n + 1, h⟩ (by show ¬(n + 1) % 32 = 0; omega)).trans (ih _)

variable (hg : ∀ (c : Dev nD) (n : Nat), (gOf m c n).toNat < 16)

include hg in
/-- The scratch's entries are in range. -/
theorem giAll_lt (c : Dev nD) (n l : Nat) : (e2 (α := BitVec 32) (giAll m c) n l).toNat < 16 := hg c _

/-- The term of point `t`. -/
def termAt (c : Dev nD) (t : Fin cfg0.N) (y : S2000x2048.Idx) : EReal :=
  term (iblk m c 0 t) (iblk m c 1 t) (iblk m c 2 t) (iblk m c 3 t) (giAll m c) y

include hg in
/-- The first point's accumulator. -/
theorem acc_first (c : Dev nD) (t : Fin cfg0.N) (h : t.val % 32 = 0) (y : S2000x2048.Idx) :
    (outsAt0 m c t.val t.isLt).2.2 y = (0 + termAt m c t y : EReal) := by
  have h1 : ¬t.val % 32 = 31 := by omega
  have hr : ∀ n l, (e2 (α := BitVec 32) (giOf (iblk m c 4 t)) n l).toNat < 16 := by
    rw [giOf_blk]; exact giAll_lt m hg c
  have e1 := congrArg (fun p => p.2.2 y) (outsAt0_A m c t h h1)
  have e2 := sout0_A_2_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h) (fun e => h1 ((hcond0_1 t).mp e)) (iblk m c 0 t) (iblk m c 1 t) (iblk m c 2 t) (iblk m c 3 t) (iblk m c 4 t) hr y
  rw [giOf_blk] at e2
  dsimp only at e1
  exact e1.trans e2

include hg in
/-- The index scratch a later point finds is in range. -/
theorem gi_prev_lt (c : Dev nD) (t : Fin cfg0.N) :
    ∀ n l, (e2 (α := BitVec 32) (outsAt0 m c (t.val - 1) (Nat.lt_of_le_of_lt (Nat.sub_le _ _) t.isLt)).2.1 n l).toNat < 16 := by
  rw [gi_const m c (t.val - 1) (Nat.lt_of_le_of_lt (Nat.sub_le _ _) t.isLt)]
  exact giAll_lt m hg c

include hg in
/-- Every later point adds its term. -/
theorem acc_step (c : Dev nD) (t : Fin cfg0.N) (h : ¬t.val % 32 = 0) (y : S2000x2048.Idx) :
    (outsAt0 m c t.val t.isLt).2.2 y = ((outsAt0 m c (t.val - 1) (Nat.lt_of_le_of_lt (Nat.sub_le _ _) t.isLt)).2.2 y + termAt m c t y : EReal) := by
  have hr := gi_prev_lt m hg c t
  by_cases h1 : t.val % 32 = 31
  · have e1 := congrArg (fun p => p.2.2 y) (outsAt0_C m c t h h1)
    have e2 := congrArg (fun g => ((outsAt0 m c (t.val - 1) (Nat.lt_of_le_of_lt (Nat.sub_le _ _) t.isLt)).2.2 y + term (iblk m c 0 t) (iblk m c 1 t) (iblk m c 2 t) (iblk m c 3 t) g y : EReal)) (gi_const m c (t.val - 1) (Nat.lt_of_le_of_lt (Nat.sub_le _ _) t.isLt))
    dsimp only at e1
    exact e1.trans ((sout0_C_2_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun e => h ((hcond0_0 t).mp e)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 hr y).trans e2)
  · have e1 := congrArg (fun p => p.2.2 y) (outsAt0_B m c t h h1)
    have e2 := congrArg (fun g => ((outsAt0 m c (t.val - 1) (Nat.lt_of_le_of_lt (Nat.sub_le _ _) t.isLt)).2.2 y + term (iblk m c 0 t) (iblk m c 1 t) (iblk m c 2 t) (iblk m c 3 t) g y : EReal)) (gi_const m c (t.val - 1) (Nat.lt_of_le_of_lt (Nat.sub_le _ _) t.isLt))
    dsimp only at e1
    exact e1.trans ((sout0_B_2_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun e => h ((hcond0_0 t).mp e)) (fun e => h1 ((hcond0_1 t).mp e)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 hr y).trans e2)

include hg in
/-- The last point's output is its accumulator. -/
theorem out_last (c : Dev nD) (t : Fin cfg0.N) (h1 : t.val % 32 = 31) (y : S2000x2048.Idx) :
    (outsAt0 m c t.val t.isLt).1 y = (outsAt0 m c t.val t.isLt).2.2 y := by
  have h : ¬t.val % 32 = 0 := by omega
  have hr := gi_prev_lt m hg c t
  have e1 := congrArg (fun p => p.1 y) (outsAt0_C m c t h h1)
  have e2 := congrArg (fun g => ((outsAt0 m c (t.val - 1) (Nat.lt_of_le_of_lt (Nat.sub_le _ _) t.isLt)).2.2 y + term (iblk m c 0 t) (iblk m c 1 t) (iblk m c 2 t) (iblk m c 3 t) g y : EReal)) (gi_const m c (t.val - 1) (Nat.lt_of_le_of_lt (Nat.sub_le _ _) t.isLt))
  dsimp only at e1
  exact (e1.trans ((out0_C_5_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun e => h ((hcond0_0 t).mp e)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 hr y).trans e2)).trans (acc_step m hg c t h y).symm

/-- The last point of the grid. -/
def tLast : Fin cfg0.N := ⟨31, lt_of_lt_of_eq (by decide) N_0.symm⟩

include hg in
/-- The output of the last point is the sum of every point's term. -/
theorem out_sum (c : Dev nD) (y : S2000x2048.Idx) :
    (outsAt0 m c 31 tLast.isLt).1 y = (∑ t : Fin cfg0.N, termAt m c t y : EReal) := by
  refine (out_last m hg c tLast (by decide) y).trans ?_
  refine (Pipeline.eq_sum_fin_of_reset_step_apply_last (M := EReal) (fun n h => (outsAt0 m c n h).2.2) 32 (fun _ => 0) (fun t y => termAt m c t y)
    (fun t h y => acc_first m hg c t h y) (fun t h y => acc_step m hg c t h y) (le_of_eq N_0) tLast rfl y).trans ?_
  exact zero_add _

end Cert.KernelIdeal.Value

end
-- ==== Proof.Value.Spec.lean ====
/- What one entry of the result is, as a sum over the reduction axis; and the kernel's sum over its grid as that sum. -/
module

public import proofs.«01_k».proof.Proof.Value.Grid

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem

/-- The dequantized weight of row `n`, column `k`, whose group is `g`. -/
def wAll (Q : Vec Ideal S1024x8192 .i8) (S : Vec Ideal S16x8192 .bf16) (Z : Vec Ideal S8x8192 .i8) (g n k : Nat) : EReal :=
  wt (nib (e2 (α := BitVec 8) Q (n / 2) k) (n % 2)) (nib (e2 (α := BitVec 8) Z (g % 8) k) (g / 8)) (e2 (α := EReal) S g k)

/-- The result at row `b`, column `n`: a row of `dy` against a row of the dequantized weights. -/
def spec (X : Vec Ideal S2000x1x8192 .bf16) (Q : Vec Ideal S1024x8192 .i8) (S : Vec Ideal S16x8192 .bf16) (Z : Vec Ideal S8x8192 .i8)
    (G : Vec Ideal S2048 .i32) (b : Fin 2000) (n : Fin 2048) : EReal :=
  ∑ k : Fin 8192, (X (ix3 b (0 : Fin 1) k) : EReal) * wAll Q S Z (G (ix1 n)).toNat n.val k.val

/-- A block's entry at numbers is the array's, when it is at indices. -/
theorem e2_blk {α : Type} {A B : Nat} [NeZero A] [NeZero B] {B' : Nat} [NeZero B'] (x : (⟨2, ![A, B]⟩ : Shape).Idx → α)
    (X : (⟨2, ![A, B']⟩ : Shape).Idx → α) (a b b' : Nat) (hb : b < B) (hb' : b' < B')
    (h : ∀ j : Fin A, x (ix2 j ⟨b, hb⟩) = X (ix2 j ⟨b', hb'⟩)) : e2 x a b = e2 X a b' := by
  have e1 : Fin.ofNat B b = ⟨b, hb⟩ := Fin.ext (Nat.mod_eq_of_lt hb)
  have e2' : Fin.ofNat B' b' = ⟨b', hb'⟩ := Fin.ext (Nat.mod_eq_of_lt hb')
  show x (ix2 (Fin.ofNat A a) (Fin.ofNat B b)) = X (ix2 (Fin.ofNat A a) (Fin.ofNat B' b'))
  rw [e1, e2']
  exact h _

variable (m : (ℓ : Loc nD τ sig) → Buf (Elt Ideal) ℓ)

/-- A weight of a point's block is the array's at the block's place. -/
theorem wgt_blk (c : Dev nD) (t : Fin cfg0.N) (n : Fin 2048) (k : Fin 256) :
    wgt (iblk m c 1 t) (iblk m c 2 t) (iblk m c 3 t) (giAll m c) n.val k.val
      = wAll (m ((c.tc : Thread nD τ).loc main_arg1)) (m ((c.tc : Thread nD τ).loc main_arg2)) (m ((c.tc : Thread nD τ).loc main_arg3))
          (m ((c.tc : Thread nD τ).loc main_arg4) (ix1 n)).toNat n.val (256 * t.val + k.val) := by
  have ht := lt32 t
  have hk := k.isLt
  have hl : 256 * t.val + k.val < 8192 := by omega
  have hg : ∀ l, e2 (α := BitVec 32) (giAll m c) n.val l = m ((c.tc : Thread nD τ).loc main_arg4) (ix1 n) := by
    intro l
    show m ((c.tc : Thread nD τ).loc main_arg4) (ix1 (Fin.ofNat 2048 (n.val % 2048))) = _
    refine congrArg _ (congrArg ix1 (Fin.ext ?_))
    show n.val % 2048 % 2048 = n.val
    have := n.isLt
    omega
  unfold wgt wAll
  rw [hg]
  rw [e2_blk (α := BitVec 8) (iblk m c 1 t) (m ((c.tc : Thread nD τ).loc main_arg1)) (n.val / 2) k.val (256 * t.val + k.val) hk hl (fun j => blk1 m c t j k),
    e2_blk (α := EReal) (iblk m c 2 t) (m ((c.tc : Thread nD τ).loc main_arg2)) _ k.val (256 * t.val + k.val) hk hl (fun j => blk2 m c t j k),
    e2_blk (α := BitVec 8) (iblk m c 3 t) (m ((c.tc : Thread nD τ).loc main_arg3)) _ k.val (256 * t.val + k.val) hk hl (fun j => blk3 m c t j k)]

/-- The terms of the grid's points sum to the result's entry. -/
theorem sum_terms (c : Dev nD) (y : S2000x2048.Idx) :
    (∑ t : Fin cfg0.N, termAt m c t y : EReal)
      = spec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (y 0) (y 1) := by
  unfold termAt term spec
  refine Fin.sum_mul_add_congr (M := EReal) (L := 8192) (S := cfg0.N) (n := 256) (fun t k hl => ?_) (by rw [show cfg0.N = 32 from N_0])
  have e : 256 * t.val + k.val = t.val * 256 + k.val := by omega
  refine congrArg₂ (fun a b : EReal => a * b) ?_ ?_
  · refine (blk0 m c t (y 0) k).trans (congrArg _ (congrArg (ix3 (y 0) (0 : Fin 1)) (Fin.ext e)))
  · refine (wgt_blk m c t (y 1) k).trans ?_
    rw [e]

variable (hg : ∀ (c : Dev nD) (n : Nat), (gOf m c n).toNat < 16)

include hg in
/-- The output array after the run. -/
theorem out_array (c : Dev nD) :
    (dats m 0 c).arrAt 5 cfg0.N = fun y : S2000x2048.Idx =>
      spec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (y 0) (y 1) := by
  refine (dats m 0 c).arrAt_eq_of_after_last 5 tLast (by decide +kernel) _ fun j => ?_
  rw [after0_5]
  exact (out_sum m hg c j).trans (sum_terms m c j)

end Cert.KernelIdeal.Value

end
-- ==== Proof.Value.KernelRun.lean ====
/- The result of the kernel's program after the run. -/
module

public import proofs.«01_k».proof.Proof.Value.Spec
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (ρ : Dev nD → PrngReg)

/-- The result array: entry by entry the sum over the reduction axis. -/
def result (X : Vec Ideal S2000x1x8192 .bf16) (Q : Vec Ideal S1024x8192 .i8) (S : Vec Ideal S16x8192 .bf16) (Z : Vec Ideal S8x8192 .i8)
    (G : Vec Ideal S2048 .i32) : Vec Ideal S2000x1x2048 .bf16 := fun i => spec X Q S Z G (i 0) (i 2)

/-- Putting the unit axis back, at an index. -/
theorem back_apply (Y : Vec Ideal S2000x2048 .bf16) (b : Fin 2000) (u : Fin 1) (n : Fin 2048) :
    shapeCast S2000x1x2048 Y shapeCasts_S2000x2048_S2000x1x2048 (ix3 b u n) = Y (ix2 b n) := by
  pointwise

/-- The result buffer after the lines that follow the region. -/
theorem tail_v3 (c : Dev nD) :
    Pipeline.afterTail₀ cfgs (dats m) 0 (V0 m) [hostOps1] c main_v3
      = shapeCast S2000x1x2048 ((dats m 0 c).arrAt 5 cfg0.N) shapeCasts_S2000x2048_S2000x1x2048 := by
  show StableHlo.after hostOps1 (Pipeline.withArrays (cfgs 0).spec c (V0 m c) fun w => (dats m 0 c).arrAt w (cfgs 0).N) (Proc.devRef .tc main_v3) = _
  have e := Pipeline.withArrays_arr (cfgs 0).spec launch0.win.arr_inj c (V0 m c) (fun w => (dats m 0 c).arrAt w (cfgs 0).N) 5
  generalize Pipeline.withArrays (cfgs 0).spec c (V0 m c) (fun w => (dats m 0 c).arrAt w (cfgs 0).N) = W at e ⊢
  after_results
  exact congrArg (fun Y : Vec Ideal S2000x2048 .bf16 => shapeCast S2000x1x2048 Y shapeCasts_S2000x2048_S2000x1x2048) e

variable (hg : ∀ (c : Dev nD) (n : Nat), (gOf m c n).toNat < 16)

include hg in
/-- The kernel's program ends with its result array at `result` of the arguments, and the arguments unchanged. -/
theorem run : θ_run defs (onTc (τ := τ) (main (F := Ideal))) ⟨m, fun _ => 0, ρ⟩ (fun r => ∀ c : Dev nD,
      r.2.mem ((c.tc : Thread nD τ).loc main_v3)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Idealize.ShloMosaic.θ_run_mono (Idealize.ShloMosaic.θ_run_and (run_main m ρ) (unchanged m ρ)) ?_
  rintro r ⟨h, hu⟩ c
  refine ⟨?_, hu c⟩
  refine ((h c).2 main_v3 (by decide)).trans ((tail_v3 m c).trans ?_)
  rw [out_array m hg c]
  funext i
  obtain ⟨b, u, n, rfl⟩ : ∃ (b : Fin 2000) (u : Fin 1) (n : Fin 2048), i = ix3 b u n := ⟨i 0, i 1, i 2, by funext a; fin_cases a <;> rfl⟩
  exact back_apply _ b u n

end Cert.KernelIdeal.Value

end
-- ==== Proof.Value.Reference.lean ====
/- The reference's result at an index. -/
module

public import proofs.«01_k».proof.Proof.Value.KernelRun
public import proofs.«01_k».proof.Proof.Gen.ReferenceIdeal.Run
public import Idealize.ShloMosaic.Lib.Routing.Ops

@[expose] public section

set_option maxRecDepth 16384

noncomputable section

namespace Cert.ReferenceIdeal.Value

open Cert.ReferenceIdeal Cert.ReferenceIdeal.Gen Cert.KernelIdeal.Value Idealize.ShloMosaic Idealize.ShloMosaic.TcCoe Idealize.ShloMosaic.Tactic Idealize.SL.Sem

/-- The zeros of all sixteen groups: the low halves, then the high halves. -/
def zerosAll (Z : Vec Ideal S8x8192 .i8) : FVec Ideal S16x8192 .bf16 :=
  concatenate S16x8192 0 [⟨S8x8192, sitofp .bf16 (andi (extui 32 Z natLt_8_32) (broadcastInDim S8x8192 ![] bcast_S_S8x8192 (constantI S_ 32 15#32)))⟩,
    ⟨S8x8192, sitofp .bf16 (Host.shrsi (extui 32 Z natLt_8_32) (broadcastInDim S8x8192 ![] bcast_S_S8x8192 (constantI S_ 32 4#32)))⟩] concatenates_S8x8192_S8x8192_S16x8192_d0

/-- The row numbers a gather is given, of a slice of the group indices. -/
def rows (g : Vec Ideal S1024 .i32) : Vec Ideal S1024x1 .i32 :=
  broadcastInDim S1024x1 ![0] bcast_S1024_S1024x1_0 (select (cmpi .slt g (broadcastInDim S1024 ![] bcast_S_S1024 (constantI S_ 32 0#32)))
    (addi g (broadcastInDim S1024 ![] bcast_S_S1024 (constantI S_ 32 16#32))) g)

/-- Half of the dequantized weights, of a half of the codes. -/
def half (code : FVec Ideal S1024x8192 .bf16) (S : Vec Ideal S16x8192 .bf16) (Z : Vec Ideal S8x8192 .i8) (g : Vec Ideal S1024 .i32) : FVec Ideal S1024x8192 .bf16 :=
  mulf (subf code (Host.gather gather_S16x8192_S1024x1_S1024x8192_1_0_n_n_0_1_18192 (zerosAll Z) (rows g)))
    (Host.gather gather_S16x8192_S1024x1_S1024x8192_1_0_n_n_0_1_18192 S (rows g))

/-- The low halves of the codes. -/
def lowCode (Q : Vec Ideal S1024x8192 .i8) : FVec Ideal S1024x8192 .bf16 :=
  sitofp .bf16 (andi (extui 32 Q natLt_8_32) (broadcastInDim S1024x8192 ![] bcast_S_S1024x8192 (constantI S_ 32 15#32)))

/-- The high halves of the codes. -/
def highCode (Q : Vec Ideal S1024x8192 .i8) : FVec Ideal S1024x8192 .bf16 :=
  sitofp .bf16 (Host.shrsi (extui 32 Q natLt_8_32) (broadcastInDim S1024x8192 ![] bcast_S_S1024x8192 (constantI S_ 32 4#32)))

/-- The two halves' products interleaved. -/
def joined (u v : FVec Ideal S2000x1x1024 .f32) : FVec Ideal S2000x1x2048 .bf16 :=
  truncf .bf16 (shapeCast _ (concatenate S2000x1x1024x2 3 [⟨S2000x1x1024x1, broadcastInDim S2000x1x1024x1 ![0, 1, 2] bcast_S2000x1x1024_S2000x1x1024x1_0_1_2 u⟩,
    ⟨S2000x1x1024x1, broadcastInDim S2000x1x1024x1 ![0, 1, 2] bcast_S2000x1x1024_S2000x1x1024x1_0_1_2 v⟩] concatenates_S2000x1x1024x1_S2000x1x1024x1_S2000x1x1024x2_d3)
    shapeCasts_S2000x1x1024x2_S2000x1x2048) bitsLt_bf16_f32

/-- The product of `dy` with half of the weights. -/
def prod (X : Vec Ideal S2000x1x8192 .bf16) (w : FVec Ideal S1024x8192 .bf16) : FVec Ideal S2000x1x1024 .f32 :=
  Host.dotGeneral (φ₁ := .bf16) (φ₂ := .bf16) dot_S2000x1x8192_S1024x8192_S2000x1x1024_2_1_01_0_n_n none X w

/-- The reference's result in those terms. -/
theorem res_eq (m : (ℓ : Loc nD τ sig) → Buf (Elt Ideal) ℓ) (c : Dev nD) :
    res_main_v55 m c = joined
      (prod (m ((c.tc : Thread nD τ).loc main_arg0)) (half (lowCode (m ((c.tc : Thread nD τ).loc main_arg1))) (m ((c.tc : Thread nD τ).loc main_arg2)) (m ((c.tc : Thread nD τ).loc main_arg3))
        (Host.slice S1024 ![0] ![2] (m ((c.tc : Thread nD τ).loc main_arg4)) slicesBy_S2048_S1024_0s2)))
      (prod (m ((c.tc : Thread nD τ).loc main_arg0)) (half (highCode (m ((c.tc : Thread nD τ).loc main_arg1))) (m ((c.tc : Thread nD τ).loc main_arg2)) (m ((c.tc : Thread nD τ).loc main_arg3))
        (Host.slice S1024 ![1] ![2] (m ((c.tc : Thread nD τ).loc main_arg4)) slicesBy_S2048_S1024_1s2))) := rfl

/-- A product at an index is a sum over the long axis. -/
theorem prod_apply (X : Vec Ideal S2000x1x8192 .bf16) (w : FVec Ideal S1024x8192 .bf16) (b : Fin 2000) (u : Fin 1) (j : Fin 1024) :
    prod X w (ix3 b u j) = (∑ k : Fin 8192, (X (ix3 b u k) : EReal) * w (ix2 j k) : EReal) := by
  pointwise [prod]

/-- The even columns of the result are the first product's. -/
theorem joined_even (u v : FVec Ideal S2000x1x1024 .f32) (b : Fin 2000) (n : Fin 2048) (h : n.val % 2 = 0) :
    joined u v (ix3 b (0 : Fin 1) n) = u (ix3 b (0 : Fin 1) ⟨n.val / 2, by have := n.isLt; omega⟩) := by
  pointwise [joined]
  rw [dif_pos (by omega)]

/-- The odd columns of the result are the second product's. -/
theorem joined_odd (u v : FVec Ideal S2000x1x1024 .f32) (b : Fin 2000) (n : Fin 2048) (h : n.val % 2 = 1) :
    joined u v (ix3 b (0 : Fin 1) n) = v (ix3 b (0 : Fin 1) ⟨n.val / 2, by have := n.isLt; omega⟩) := by
  pointwise [joined]
  rw [dif_neg (by omega)]

/-- The low half of each byte, as a word. -/
theorem lo_word : ∀ n : Fin 256, (IntOp.andi (BitVec.setWidth 32 (BitVec.ofNat 8 n.val)) 15#32).toInt = ((n.val % 16 : ℕ) : ℤ) := by decide +kernel

/-- The high half of each byte, as a word. -/
theorem hi_word : ∀ n : Fin 256, (IntOp.shrsi ArithUnit.host (BitVec.setWidth 32 (BitVec.ofNat 8 n.val)) 4#32).toInt = ((n.val / 16 : ℕ) : ℤ) := by decide +kernel

/-- The low half of a byte denotes its field. -/
theorem lo_value (q : BitVec 8) : (FloatOps.sitofp FTy.bf16 (IntOp.andi (BitVec.setWidth 32 q) 15#32) : Ideal .bf16) = ((nib q 0 : ℝ) : EReal) := by
  have h := lo_word ⟨q.toNat, q.isLt⟩
  simp only [BitVec.ofNat_toNat, BitVec.setWidth_eq] at h
  show (((IntOp.andi (BitVec.setWidth 32 q) 15#32).toInt : ℝ) : EReal) = _
  rw [h, Int.cast_natCast]
  rfl

/-- The high half of a byte denotes its field. -/
theorem hi_value (q : BitVec 8) : (FloatOps.sitofp FTy.bf16 (IntOp.shrsi ArithUnit.host (BitVec.setWidth 32 q) 4#32) : Ideal .bf16) = ((nib q 1 : ℝ) : EReal) := by
  have h := hi_word ⟨q.toNat, q.isLt⟩
  simp only [BitVec.ofNat_toNat, BitVec.setWidth_eq] at h
  show (((IntOp.shrsi ArithUnit.host (BitVec.setWidth 32 q) 4#32).toInt : ℝ) : EReal) = _
  rw [h, Int.cast_natCast]
  rfl

/-- The low codes at an index. -/
theorem low_apply (Q : Vec Ideal S1024x8192 .i8) (j : Fin 1024) (k : Fin 8192) : lowCode Q (ix2 j k) = ((nib (Q (ix2 j k)) 0 : ℝ) : EReal) := by
  pointwise [lowCode]
  exact lo_value _

/-- The high codes at an index. -/
theorem high_apply (Q : Vec Ideal S1024x8192 .i8) (j : Fin 1024) (k : Fin 8192) : highCode Q (ix2 j k) = ((nib (Q (ix2 j k)) 1 : ℝ) : EReal) := by
  pointwise [highCode]
  exact hi_value _

/-- The zeros at an index: group `g` is half `g / 8` of packed row `g % 8`. -/
theorem zeros_apply (Z : Vec Ideal S8x8192 .i8) (g : Fin 16) (k : Fin 8192) :
    zerosAll Z (ix2 g k) = ((nib (Z (ix2 ⟨g.val % 8, Nat.mod_lt _ (by decide)⟩ k)) (g.val / 8) : ℝ) : EReal) := by
  have hlt := g.isLt
  pointwise [zerosAll]
  by_cases hg : g.val < 8
  · rw [dif_pos hg]
    have e : (⟨g.val, hg⟩ : Fin 8) = ⟨g.val % 8, Nat.mod_lt _ (by decide)⟩ := Fin.ext (Nat.mod_eq_of_lt hg).symm
    rw [show g.val / 8 = 0 by omega, e]
    exact lo_value _
  · rw [dif_neg hg]
    have e : (⟨g.val - 8, by omega⟩ : Fin 8) = ⟨g.val % 8, Nat.mod_lt _ (by decide)⟩ := Fin.ext (by show g.val - 8 = g.val % 8; omega)
    rw [show g.val / 8 = 1 by omega, e]
    exact hi_value _

/-- A row number below sixteen is not negative. -/
theorem small_word : ∀ n : Fin 16, IntOp.cmpi CmpIPredicate.slt (BitVec.ofNat 32 n.val) 0#32 = 0#1 := by decide +kernel

/-- The row a gather reads is the group index itself when that is in range. -/
theorem rows_apply (g : Vec Ideal S1024 .i32) (j : Fin 1024) (r : Fin 16) (h : g (ix1 j) = BitVec.ofNat 32 r.val) :
    rows g (ix2 j (0 : Fin 1)) = BitVec.ofNat 32 r.val := by
  pointwise [rows]
  rw [h, small_word r]
  rfl

/-- Half of the weights at an index. -/
theorem half_apply (code : FVec Ideal S1024x8192 .bf16) (S : Vec Ideal S16x8192 .bf16) (Z : Vec Ideal S8x8192 .i8) (g : Vec Ideal S1024 .i32)
    (j : Fin 1024) (k : Fin 8192) (r : Fin 16) (h : g (ix1 j) = BitVec.ofNat 32 r.val) (q : Nat) (hq : code (ix2 j k) = ((q : ℝ) : EReal)) :
    half code S Z g (ix2 j k) = wt q (nib (Z (ix2 ⟨r.val % 8, Nat.mod_lt _ (by decide)⟩ k)) (r.val / 8)) (S (ix2 r k)) := by
  have h1 : Host.gather gather_S16x8192_S1024x1_S1024x8192_1_0_n_n_0_1_18192 (zerosAll Z) (rows g) (ix2 j k) = zerosAll Z (ix2 r k) := Routing.gather_row gather_S16x8192_S1024x1_S1024x8192_1_0_n_n_0_1_18192 rfl rfl rfl rfl rfl (zerosAll Z) (rows g) j k r
    (rows_apply g j r h) (by norm_num)
  have h2 : Host.gather gather_S16x8192_S1024x1_S1024x8192_1_0_n_n_0_1_18192 (S : FVec Ideal S16x8192 .bf16) (rows g) (ix2 j k) = S (ix2 r k) := Routing.gather_row gather_S16x8192_S1024x1_S1024x8192_1_0_n_n_0_1_18192 rfl rfl rfl rfl rfl (S : FVec Ideal S16x8192 .bf16) (rows g) j k r
    (rows_apply g j r h) (by norm_num)
  have e : half code S Z g (ix2 j k) = ((code (ix2 j k) : EReal) - (Host.gather gather_S16x8192_S1024x1_S1024x8192_1_0_n_n_0_1_18192 (zerosAll Z) (rows g) (ix2 j k) : EReal))
      * (Host.gather gather_S16x8192_S1024x1_S1024x8192_1_0_n_n_0_1_18192 (S : FVec Ideal S16x8192 .bf16) (rows g) (ix2 j k) : EReal) := rfl
  rw [e, h1, h2, hq, zeros_apply]
  rfl

/-- The slice of the even group indices at an index. -/
theorem even_slice (G : Vec Ideal S2048 .i32) (j : Fin 1024) :
    Host.slice S1024 ![0] ![2] G slicesBy_S2048_S1024_0s2 (ix1 j) = G (ix1 ⟨2 * j.val, by have := j.isLt; omega⟩) := by
  pointwise []

/-- The slice of the odd group indices at an index. -/
theorem odd_slice (G : Vec Ideal S2048 .i32) (j : Fin 1024) :
    Host.slice S1024 ![1] ![2] G slicesBy_S2048_S1024_1s2 (ix1 j) = G (ix1 ⟨2 * j.val + 1, by have := j.isLt; omega⟩) := by
  pointwise []
  exact congrArg (fun x => G (ix1 x)) (Fin.ext (Nat.add_comm 1 (2 * j.val)))

/-- One weight as the kernel's value names it. -/
theorem wAll_eq (Q : Vec Ideal S1024x8192 .i8) (S : Vec Ideal S16x8192 .bf16) (Z : Vec Ideal S8x8192 .i8) (r : Fin 16) (n : Fin 2048) (k : Fin 8192) :
    wAll Q S Z r.val n.val k.val = wt (nib (Q (ix2 ⟨n.val / 2, by have := n.isLt; omega⟩ k)) (n.val % 2))
      (nib (Z (ix2 ⟨r.val % 8, Nat.mod_lt _ (by decide)⟩ k)) (r.val / 8)) (S (ix2 r k)) := by
  have hn := n.isLt
  have hr := r.isLt
  have hk := k.isLt
  have ek : Fin.ofNat 8192 k.val = k := Fin.ext (Nat.mod_eq_of_lt hk)
  have e1 : Fin.ofNat 1024 (n.val / 2) = ⟨n.val / 2, by omega⟩ := Fin.ext (Nat.mod_eq_of_lt (by omega))
  have e2' : Fin.ofNat 8 (r.val % 8) = ⟨r.val % 8, Nat.mod_lt _ (by decide)⟩ := Fin.ext (Nat.mod_eq_of_lt (Nat.mod_lt _ (by decide)))
  have e3 : Fin.ofNat 16 r.val = r := Fin.ext (Nat.mod_eq_of_lt hr)
  unfold wAll e2
  rw [ek, e1, e2', e3]

/-- The reference's joined products are the kernel's result, the group indices in range. -/
theorem joined_result (X : Vec Ideal S2000x1x8192 .bf16) (Q : Vec Ideal S1024x8192 .i8) (S : Vec Ideal S16x8192 .bf16) (Z : Vec Ideal S8x8192 .i8)
    (G : Vec Ideal S2048 .i32) (hg : ∀ n : Fin 2048, (G (ix1 n)).toNat < 16) :
    joined (prod X (half (lowCode Q) S Z (Host.slice S1024 ![0] ![2] G slicesBy_S2048_S1024_0s2)))
      (prod X (half (highCode Q) S Z (Host.slice S1024 ![1] ![2] G slicesBy_S2048_S1024_1s2))) = result X Q S Z G := by
  funext i
  obtain ⟨b, u, n, rfl⟩ : ∃ (b : Fin 2000) (u : Fin 1) (n : Fin 2048), i = ix3 b u n := ⟨i 0, i 1, i 2, by funext a; fin_cases a <;> rfl⟩
  obtain rfl : u = 0 := Subsingleton.elim _ _
  have hn := n.isLt
  have hG : G (ix1 n) = BitVec.ofNat 32 (G (ix1 n)).toNat := by rw [BitVec.ofNat_toNat, BitVec.setWidth_eq]
  have hs : result X Q S Z G (ix3 b (0 : Fin 1) n) = (∑ k : Fin 8192, (X (ix3 b (0 : Fin 1) k) : EReal) * wAll Q S Z (G (ix1 n)).toNat n.val k.val : EReal) := rfl
  refine Eq.trans ?_ hs.symm
  obtain h | h : n.val % 2 = 0 ∨ n.val % 2 = 1 := by omega
  · rw [joined_even _ _ b n h, prod_apply]
    refine Finset.sum_congr rfl fun k _ => congrArg _ ?_
    have hw := wAll_eq Q S Z ⟨(G (ix1 n)).toNat, hg n⟩ n k
    rw [h] at hw
    refine (half_apply _ S Z _ ⟨n.val / 2, by omega⟩ k ⟨(G (ix1 n)).toNat, hg n⟩ ?_ _ (low_apply Q _ k)).trans hw.symm
    rw [even_slice]
    refine Eq.trans (congrArg (fun x => G (ix1 x)) (Fin.ext ?_)) hG
    show 2 * (n.val / 2) = n.val
    omega
  · rw [joined_odd _ _ b n h, prod_apply]
    refine Finset.sum_congr rfl fun k _ => congrArg _ ?_
    have hw := wAll_eq Q S Z ⟨(G (ix1 n)).toNat, hg n⟩ n k
    rw [h] at hw
    refine (half_apply _ S Z _ ⟨n.val / 2, by omega⟩ k ⟨(G (ix1 n)).toNat, hg n⟩ ?_ _ (high_apply Q _ k)).trans hw.symm
    rw [odd_slice]
    refine Eq.trans (congrArg (fun x => G (ix1 x)) (Fin.ext ?_)) hG
    show 2 * (n.val / 2) + 1 = n.val
    omega

/-- The reference's result is the kernel's, the group indices in range. -/
theorem res_value (m : (ℓ : Loc nD τ sig) → Buf (Elt Ideal) ℓ) (c : Dev nD)
    (hg : ∀ n : Fin 2048, BitVec.toNat ((m ((c.tc : Thread nD τ).loc main_arg4) : Vec Ideal S2048 .i32) (ix1 n)) < 16) :
    res_main_v55 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) :=
  (res_eq m c).trans (joined_result _ _ _ _ _ hg)

end Cert.ReferenceIdeal.Value

end
-- ==== Proof.Value.Algebraic.lean ====
/- The kernel and the reference end with the same result. -/
module

public import proofs.«01_k».proof.Defs
public import proofs.«01_k».proof.Proof.Gen.Pre_g_in_range
public import proofs.«01_k».proof.Proof.Value.KernelRun
public import proofs.«01_k».proof.Proof.Value.Reference
public import Idealize.ShloMosaic.Lib.ReduceAll

@[expose] public section

noncomputable section

namespace Cert.Value

open Idealize.ShloMosaic Idealize.SL.Sem

/-- A word that is at least zero and below sixteen as a signed number is below sixteen. -/
theorem word_small (x : BitVec 32) (h0 : IntOp.cmpi .sge x 0#32 = 1#1) (h1 : IntOp.cmpi .slt x 16#32 = 1#1) : x.toNat < 16 := by
  rw [IntOp.cmpi_sge] at h0
  rw [IntOp.cmpi_slt] at h1
  have e0 : (0#32 : BitVec 32).toInt = 0 := by decide
  have e1 : (16#32 : BitVec 32).toInt = 16 := by decide
  rw [e0] at h0
  rw [e1] at h1
  have := x.isLt
  rw [BitVec.toInt_eq_toNat_cond] at h0 h1
  split at h0 <;> split at h1 <;> omega

/-- The precondition says every group index is below sixteen. -/
theorem in_range (X : FVec Ideal Cert.Pre_g_in_range.S2000x1x8192 .bf16) (Q : IVec Cert.Pre_g_in_range.S1024x8192 8)
    (S : FVec Ideal Cert.Pre_g_in_range.S16x8192 .bf16) (Z : IVec Cert.Pre_g_in_range.S8x8192 8) (G : IVec Cert.Pre_g_in_range.S2048 32)
    (h : Cert.Pre_g_in_range.fn (F := Ideal) X Q S Z G = fun _ => 1#1) (i : Cert.Pre_g_in_range.S2048.Idx) : (G i).toNat < 16 := by
  haveI : Subsingleton Cert.Pre_g_in_range.S_.Idx := ⟨fun a b => funext fun j => j.elim0⟩
  have h1 := Host.reduce_andi_all _ _ _ _ _ (congrFun h (fun j => j.elim0)) i
  obtain ⟨ha, hb⟩ := IntOp.andi_eq_one.1 h1
  exact word_small _ ha hb

/-- The kernel and the reference end with the same result when the group indices are in range. -/
theorem algebraic : Cert.algebraic_KernelIdeal_ReferenceIdeal_pre_g_in_range := by
  intro m ρ m' ρ' hpre hargs
  have hall : ∀ (c : Dev Cert.KernelIdeal.nD) (n : Fin 2048),
      BitVec.toNat ((m ((c.tc : Thread Cert.KernelIdeal.nD Cert.KernelIdeal.τ).loc Cert.KernelIdeal.main_arg4) : Vec Ideal Cert.KernelIdeal.S2048 .i32) (ix1 n)) < 16 :=
    fun c n => in_range _ _ _ _ _ (hpre c) (ix1 n)
  refine ⟨_, Cert.KernelIdeal.Value.run m ρ (fun c n => hall c _), ?_⟩
  refine Idealize.ShloMosaic.θ_run_mono (Cert.ReferenceIdeal.Value.run (F := Ideal) m' ρ') ?_
  intro r h c
  obtain ⟨a0, a1, a2, a3, a4⟩ := hargs c
  refine ⟨(h c).1.trans ((Cert.ReferenceIdeal.Value.res_value m' c (fun n => ?_)).trans ?_), (h c).2⟩
  · rw [a4]; exact hall c n
  · rw [a0, a1, a2, a3, a4]

end Cert.Value

end
-- ==== Proof.lean ====
/- The proof of the directory's claim. -/
module

public import proofs.«01_k».proof.Defs
public import proofs.«01_k».proof.Proof.Gen.Pre_g_in_range
public import proofs.«01_k».proof.Proof.Gen.ReferenceIdeal.Run
public import proofs.«01_k».proof.Proof.Bits.Frame
public import proofs.«01_k».proof.Proof.Ideal.Frame
public import proofs.«01_k».proof.Proof.Value.Algebraic
public import Idealize.ShloMosaic.Adequacy
public import Idealize.ShloMosaic.Lib.Bf16Pair
public import Idealize.ShloMosaic.Init

@[expose] public section

noncomputable section

namespace Cert.Proof

open Idealize.ShloMosaic Idealize.SL.Sem Cert.Kernel

/-- Running the reference leaves its arguments as they were and every semaphore at zero (it has none). -/
theorem reference_frame : Cert.quiescent_ReferenceIdeal := fun m ρ _ =>
  (θ_run Cert.ReferenceIdeal.defs _ _).mono (fun r h => And.intro (fun c => (h c).2)
      (Idealize.ShloMosaic.sem_eq_zero_of_no_sems (by decide) r.2))
    (Cert.ReferenceIdeal.Value.run (F := Ideal) m ρ)

/-- Idealizing the packed scales and the packed codes and zero points changes no bit pattern. -/
theorem preserves : Cert.preserves_Kernel_KernelIdeal :=
  ⟨IdealRules.bf16_pair.packStatement _, IdealRules.bf16_pair.statement _ _⟩

/-- Everything the certificate claims. -/
theorem claim : Cert.Claim := ⟨Cert.Kernel.Gen.facts, Cert.KernelIdeal.Gen.facts, Cert.ReferenceIdeal.Gen.facts, Cert.Pre_g_in_range.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, preserves,
  Cert.Value.algebraic⟩

end Cert.Proof

end
